-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_points_apart [hPre_points_apart : Cert.Pre_points_apart.Facts] (m : (ℓ : Loc Cert.KernelIdeal.nD Cert.KernelIdeal.τ Cert.KernelIdeal.sig) → Buf (Elt Ideal) ℓ) : Prop :=
  ∀ c : Dev Cert.KernelIdeal.nD,
    (Cert.Pre_points_apart.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_points_apart.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_points_apart [hPre_points_apart : Cert.Pre_points_apart.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_points_apart.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_points_apart.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_points_apart [hKernelIdeal : Cert.KernelIdeal.Facts] [hPre_points_apart : Cert.Pre_points_apart.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_points_apart m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_points_apart [hReferenceIdeal : Cert.ReferenceIdeal.Facts] [hPre_points_apart : Cert.Pre_points_apart.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_points_apart m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_points_apart [hKernelIdeal : Cert.KernelIdeal.Facts] [hReferenceIdeal : Cert.ReferenceIdeal.Facts] [hPre_points_apart : Cert.Pre_points_apart.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_points_apart m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v79) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_points_apart : Cert.Pre_points_apart.Facts),
    quiescent_Kernel (hKernel := hKernel)
    ∧ quiescent_KernelIdeal (hKernelIdeal := hKernelIdeal)
    ∧ quiescent_KernelIdeal_pre_points_apart (hKernelIdeal := hKernelIdeal) (hPre_points_apart := hPre_points_apart)
    ∧ quiescent_ReferenceIdeal (hReferenceIdeal := hReferenceIdeal)
    ∧ quiescent_ReferenceIdeal_pre_points_apart (hReferenceIdeal := hReferenceIdeal) (hPre_points_apart := hPre_points_apart)
    ∧ preserves_Kernel_KernelIdeal
    ∧ algebraic_KernelIdeal_ReferenceIdeal_pre_points_apart (hKernelIdeal := hKernelIdeal) (hReferenceIdeal := hReferenceIdeal) (hPre_points_apart := hPre_points_apart)
-- ==== Pre_points_apart.lean ====
abbrev S10000x64 : Shape := ⟨2, ![10000, 64]⟩
abbrev S10000x3 : Shape := ⟨2, ![10000, 3]⟩
abbrev S10000 : Shape := ⟨1, ![10000]⟩
abbrev S10000x10000 : Shape := ⟨2, ![10000, 10000]⟩
abbrev S10000x1 : Shape := ⟨2, ![10000, 1]⟩
abbrev S_ : Shape := ⟨0, ![]⟩

class Facts : Prop where
  slices_S10000x3_S10000x1_0_0 : S10000x3.Slices ![0, 0] S10000x1
  shapeCasts_S10000x1_S10000 : S10000x1.ShapeCasts S10000
  bcast_S10000_S10000x10000_0 : S10000.BroadcastsInDim S10000x10000 (![0] : Fin 1 → Fin S10000x10000.rank)
  bcast_S10000_S10000x10000_1 : S10000.BroadcastsInDim S10000x10000 (![1] : Fin 1 → Fin S10000x10000.rank)
  slices_S10000x3_S10000x1_0_1 : S10000x3.Slices ![0, 1] S10000x1
  slices_S10000x3_S10000x1_0_2 : S10000x3.Slices ![0, 2] S10000x1
  bcast_S_S10000x3 : S_.BroadcastsInDim S10000x3 (![] : Fin 0 → Fin S10000x3.rank)

variable [Facts]

def fn_part1 {F : FTy → Type} [FloatOps F] (main_arg1 : FVec F S10000x3 .f32) (main_v20 : IVec S10000x10000 1) (main_v22 : IVec S10000x3 1) : IVec S10000x10000 1 × IVec S10000x3 1 :=
  let main_cst_0 : FVec F S_ .f32 := constant S_ .f32 0x48927C00#32
  let main_v23 : FVec F S10000x3 .f32 := broadcastInDim S10000x3 ![] bcast_S_S10000x3 main_cst_0
  let main_v24 : IVec S10000x3 1 := cmpf .ole main_arg1 main_v23
  let main_v25 : IVec S10000x3 1 := andi main_v22 main_v24
  (main_v20, main_v25)

def fn {F : FTy → Type} [FloatOps F] (main_arg0 : FVec F S10000x64 .f32) (main_arg1 : FVec F S10000x3 .f32) (main_arg2 : FVec F S10000x3 .f32) (main_arg3 : IVec S10000 32) : IVec S10000x10000 1 × IVec S10000x3 1 :=
  let main_v0 : IVec S10000x10000 32 := iotaInDim S10000x10000 32 0
  let main_v1 : IVec S10000x10000 32 := iotaInDim S10000x10000 32 1
  let main_v2 : IVec S10000x10000 1 := cmpi .eq main_v0 main_v1
  let main_v3 : FVec F S10000x1 .f32 := (extractStridedSlice S10000x1 ![0, 0] · slices_S10000x3_S10000x1_0_0) main_arg1
  let main_v4 : FVec F S10000 .f32 := shapeCast S10000 main_v3 shapeCasts_S10000x1_S10000
  let main_v5 : FVec F S10000x10000 .f32 := broadcastInDim S10000x10000 ![0] bcast_S10000_S10000x10000_0 main_v4
  let main_v6 : FVec F S10000x10000 .f32 := broadcastInDim S10000x10000 ![1] bcast_S10000_S10000x10000_1 main_v4
  let main_v7 : IVec S10000x10000 1 := cmpf .une main_v5 main_v6
  let main_v8 : IVec S10000x10000 1 := ori main_v2 main_v7
  let main_v9 : FVec F S10000x1 .f32 := (extractStridedSlice S10000x1 ![0, 1] · slices_S10000x3_S10000x1_0_1) main_arg1
  let main_v10 : FVec F S10000 .f32 := shapeCast S10000 main_v9 shapeCasts_S10000x1_S10000
  let main_v11 : FVec F S10000x10000 .f32 := broadcastInDim S10000x10000 ![0] bcast_S10000_S10000x10000_0 main_v10
  let main_v12 : FVec F S10000x10000 .f32 := broadcastInDim S10000x10000 ![1] bcast_S10000_S10000x10000_1 main_v10
  let main_v13 : IVec S10000x10000 1 := cmpf .une main_v11 main_v12
  let main_v14 : IVec S10000x10000 1 := ori main_v8 main_v13
  let main_v15 : FVec F S10000x1 .f32 := (extractStridedSlice S10000x1 ![0, 2] · slices_S10000x3_S10000x1_0_2) main_arg1
  let main_v16 : FVec F S10000 .f32 := shapeCast S10000 main_v15 shapeCasts_S10000x1_S10000
  let main_v17 : FVec F S10000x10000 .f32 := broadcastInDim S10000x10000 ![0] bcast_S10000_S10000x10000_0 main_v16
  let main_v18 : FVec F S10000x10000 .f32 := broadcastInDim S10000x10000 ![1] bcast_S10000_S10000x10000_1 main_v16
  let main_v19 : IVec S10000x10000 1 := cmpf .une main_v17 main_v18
  let main_v20 : IVec S10000x10000 1 := ori main_v14 main_v19
  let main_cst : FVec F S_ .f32 := constant S_ .f32 0xC8927C00#32
  let main_v21 : FVec F S10000x3 .f32 := broadcastInDim S10000x3 ![] bcast_S_S10000x3 main_cst
  let main_v22 : IVec S10000x3 1 := cmpf .oge main_arg1 main_v21
  fn_part1 (F := F) main_arg1 main_v20 main_v22
-- ==== Kernel.lean ====
abbrev S10000x64 : Shape := ⟨2, ![10000, 64]⟩
abbrev S10000x3 : Shape := ⟨2, ![10000, 3]⟩
abbrev S10000 : Shape := ⟨1, ![10000]⟩
abbrev S10240x128 : Shape := ⟨2, ![10240, 128]⟩
abbrev S10000x1 : Shape := ⟨2, ![10000, 1]⟩
abbrev S240x128 : Shape := ⟨2, ![240, 128]⟩
abbrev S_ : Shape := ⟨0, ![]⟩
abbrev S10000x8 : Shape := ⟨2, ![10000, 8]⟩
abbrev S240x8 : Shape := ⟨2, ![240, 8]⟩
abbrev S10240x8 : Shape := ⟨2, ![10240, 8]⟩
abbrev S8x10240 : Shape := ⟨2, ![8, 10240]⟩
abbrev S8x80x128 : Shape := ⟨3, ![8, 80, 128]⟩
abbrev S1x1 : Shape := ⟨2, ![1, 1]⟩
abbrev S96x8 : Shape := ⟨2, ![96, 8]⟩
abbrev S96x128 : Shape := ⟨2, ![96, 128]⟩
abbrev S96x1 : Shape := ⟨2, ![96, 1]⟩
abbrev S96x1x1 : Shape := ⟨3, ![96, 1, 1]⟩
abbrev S1x80x128 : Shape := ⟨3, ![1, 80, 128]⟩
abbrev S96x80x128 : Shape := ⟨3, ![96, 80, 128]⟩
abbrev S96x1x128 : Shape := ⟨3, ![96, 1, 128]⟩
abbrev S1x1x128 : Shape := ⟨3, ![1, 1, 128]⟩
abbrev S96x4x128 : Shape := ⟨3, ![96, 4, 128]⟩
abbrev S1x1x1 : Shape := ⟨3, ![1, 1, 1]⟩
abbrev S96x10240 : Shape := ⟨2, ![96, 10240]⟩
abbrev S96x64 : Shape := ⟨2, ![96, 64]⟩
abbrev S96 : Shape := ⟨1, ![96]⟩
abbrev S1 : Shape := ⟨1, ![1]⟩

abbrev nBuf : Space → Nat
  | .hbm => 19
  | .vmem => 9
  | .smem => 0
  | _ => 0

abbrev bufTy : (tb : Table) → Fin (tcTables nBuf tb) → BufTy
  | .hbm, ⟨0, _⟩ => ⟨S10000x64, .f32⟩
  | .hbm, ⟨1, _⟩ => ⟨S10000x3, .f32⟩
  | .hbm, ⟨2, _⟩ => ⟨S10000x3, .f32⟩
  | .hbm, ⟨3, _⟩ => ⟨S10000, .i32⟩
  | .hbm, ⟨4, _⟩ => ⟨S10240x128, .f32⟩
  | .hbm, ⟨5, _⟩ => ⟨S10000, .f32⟩
  | .hbm, ⟨6, _⟩ => ⟨S10000x1, .f32⟩
  | .hbm, ⟨7, _⟩ => ⟨S_, .f32⟩
  | .hbm, ⟨8, _⟩ => ⟨S10000x1, .f32⟩
  | .hbm, ⟨9, _⟩ => ⟨S10000x8, .f32⟩
  | .hbm, ⟨10, _⟩ => ⟨S_, .f32⟩
  | .hbm, ⟨11, _⟩ => ⟨S240x8, .f32⟩
  | .hbm, ⟨12, _⟩ => ⟨S10240x8, .f32⟩
  | .hbm, ⟨13, _⟩ => ⟨S8x10240, .f32⟩
  | .hbm, ⟨14, _⟩ => ⟨S8x80x128, .f32⟩
  | .hbm, ⟨15, _⟩ => ⟨S1x1, .f32⟩
  | .hbm, ⟨16, _⟩ => ⟨S_, .f32⟩
  | .hbm, ⟨17, _⟩ => ⟨S_, .f32⟩
  | .hbm, ⟨18, _⟩ => ⟨S_, .f32⟩
  | .local _ .vmem, ⟨0, _⟩ => ⟨S10000x64, .f32⟩
  | .local _ .vmem, ⟨1, _⟩ => ⟨S10240x128, .f32⟩
  | .local _ .vmem, ⟨2, _⟩ => ⟨S96x8, .f32⟩
  | .local _ .vmem, ⟨3, _⟩ => ⟨S96x8, .f32⟩
  | .local _ .vmem, ⟨4, _⟩ => ⟨S8x80x128, .f32⟩
  | .local _ .vmem, ⟨5, _⟩ => ⟨S10240x128, .f32⟩
  | .local _ .vmem, ⟨6, _⟩ => ⟨S96x128, .f32⟩
  | .local _ .vmem, ⟨7, _⟩ => ⟨S96x128, .f32⟩
  | .local _ .vmem, ⟨8, _⟩ => ⟨S1x1, .f32⟩
  | _, _ => ⟨S10000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev cc0_stg0_0 : Ref sig .tc := ⟨.vmem, 0, rfl⟩
abbrev cc0_stg1_0 : Ref sig .tc := ⟨.vmem, 1, rfl⟩
abbrev cc1_stg0_0 : Ref sig .tc := ⟨.vmem, 2, rfl⟩
abbrev cc1_stg0_1 : Ref sig .tc := ⟨.vmem, 3, rfl⟩
abbrev cc1_stg1_0 : Ref sig .tc := ⟨.vmem, 4, rfl⟩
abbrev cc1_stg2_0 : Ref sig .tc := ⟨.vmem, 5, rfl⟩
abbrev cc1_stg3_0 : Ref sig .tc := ⟨.vmem, 6, rfl⟩
abbrev cc1_stg3_1 : Ref sig .tc := ⟨.vmem, 7, rfl⟩
abbrev cc1_stg4_0 : Ref sig .tc := ⟨.vmem, 8, rfl⟩
abbrev cc0_sem0_0 : DmaSem sig := 0
abbrev cc0_sem1_0 : DmaSem sig := 1
abbrev cc1_sem0_0 : DmaSem sig := 2
abbrev cc1_sem0_1 : DmaSem sig := 3
abbrev cc1_sem1_0 : DmaSem sig := 4
abbrev cc1_sem2_0 : DmaSem sig := 5
abbrev cc1_sem3_0 : DmaSem sig := 6
abbrev cc1_sem3_1 : DmaSem sig := 7
abbrev cc1_sem4_0 : DmaSem sig := 8

abbrev nD : Nat := 1
abbrev τ : Topo := Topo.v7x

variable {F : FTy → Type} [FloatOps F]

abbrev grid0 : Pipeline.Grid := .none

abbrev stage0_0 : Fin 1 → Memref sig .tc .vmem S10000x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S10240x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev grid1 : Pipeline.Grid := ⟨1, ![105], ![false]⟩

@[reducible] def k1_t1_loop : Scf.Loop 32 :=
  let c0_i32_32 : BitVec 32 := 0#32
  let c16_i32 : BitVec 32 := 16#32
  let v123 : BitVec 32 := Scalar.addi c0_i32_32 c16_i32
  let c1_i32 : BitVec 32 := 1#32
  ⟨c0_i32_32, v123, c1_i32⟩
@[reducible] def k1_t2_loop : Scf.Loop 32 :=
  let c0_i32_87 : BitVec 32 := 0#32
  let c16_i32_88 : BitVec 32 := 16#32
  let v267 : BitVec 32 := Scalar.addi c0_i32_87 c16_i32_88
  let c1_i32_89 : BitVec 32 := 1#32
  ⟨c0_i32_87, v267, c1_i32_89⟩
def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S96x8 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S8x80x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S10240x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S96x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S1x1 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]
-- ==== ReferenceIdeal.lean ====
abbrev S10000x64 : Shape := ⟨2, ![10000, 64]⟩
abbrev S10000x3 : Shape := ⟨2, ![10000, 3]⟩
abbrev S10000 : Shape := ⟨1, ![10000]⟩
abbrev S_ : Shape := ⟨0, ![]⟩
abbrev S10000x1 : Shape := ⟨2, ![10000, 1]⟩
abbrev S10000x1x3 : Shape := ⟨3, ![10000, 1, 3]⟩
abbrev S1x10000x3 : Shape := ⟨3, ![1, 10000, 3]⟩
abbrev S10000x10000x3 : Shape := ⟨3, ![10000, 10000, 3]⟩
abbrev S10000x10000 : Shape := ⟨2, ![10000, 10000]⟩
abbrev S10000x17 : Shape := ⟨2, ![10000, 17]⟩
abbrev S10000x16 : Shape := ⟨2, ![10000, 16]⟩
abbrev S10000x16x1 : Shape := ⟨3, ![10000, 16, 1]⟩
abbrev S10000x16x3 : Shape := ⟨3, ![10000, 16, 3]⟩
abbrev S10000x1x64 : Shape := ⟨3, ![10000, 1, 64]⟩
abbrev S10000x16x64 : Shape := ⟨3, ![10000, 16, 64]⟩

abbrev nBuf : Space → Nat
  | .hbm => 106
  | .vmem => 0
  | .smem => 0
  | _ => 0

abbrev bufTy : (tb : Table) → Fin (tcTables nBuf tb) → BufTy
  | .hbm, ⟨0, _⟩ => ⟨S10000x64, .f32⟩
  | .hbm, ⟨1, _⟩ => ⟨S10000x3, .f32⟩
  | .hbm, ⟨2, _⟩ => ⟨S10000x3, .f32⟩
  | .hbm, ⟨3, _⟩ => ⟨S10000, .i32⟩
  | .hbm, ⟨4, _⟩ => ⟨S10000x64, .f32⟩
  | .hbm, ⟨5, _⟩ => ⟨S_, .f32⟩
  | .hbm, ⟨6, _⟩ => ⟨S10000, .f32⟩
  | .hbm, ⟨7, _⟩ => ⟨S10000x1, .f32⟩
  | .hbm, ⟨8, _⟩ => ⟨S10000x1, .f32⟩
  | .hbm, ⟨9, _⟩ => ⟨S_, .f32⟩
  | .hbm, ⟨10, _⟩ => ⟨S10000x1, .f32⟩
  | .hbm, ⟨11, _⟩ => ⟨S10000x1, .f32⟩
  | .hbm, ⟨12, _⟩ => ⟨S10000x64, .f32⟩
  | .hbm, ⟨13, _⟩ => ⟨S10000x64, .f32⟩
  | .hbm, ⟨14, _⟩ => ⟨S10000x1x3, .f32⟩
  | .hbm, ⟨15, _⟩ => ⟨S1x10000x3, .f32⟩
  | .hbm, ⟨16, _⟩ => ⟨S10000x10000x3, .f32⟩
  | .hbm, ⟨17, _⟩ => ⟨S10000x10000x3, .f32⟩
  | .hbm, ⟨18, _⟩ => ⟨S10000x10000x3, .f32⟩
  | .hbm, ⟨19, _⟩ => ⟨S10000x10000x3, .f32⟩
  | .hbm, ⟨20, _⟩ => ⟨S_, .f32⟩
  | .hbm, ⟨21, _⟩ => ⟨S10000x10000, .f32⟩
  | .hbm, ⟨22, _⟩ => ⟨S_, .f32⟩
  | .hbm, ⟨23, _⟩ => ⟨S10000x10000, .f32⟩
  | .hbm, ⟨24, _⟩ => ⟨S10000x10000, .f32⟩
  | .hbm, ⟨25, _⟩ => ⟨S10000x10000, .f32⟩
  | .hbm, ⟨26, _⟩ => ⟨S10000x10000, .f32⟩
  | .hbm, ⟨27, _⟩ => ⟨S10000x17, .f32⟩
  | .hbm, ⟨28, _⟩ => ⟨S10000x17, .i32⟩
  | .hbm, ⟨29, _⟩ => ⟨S10000x16, .i32⟩
  | .hbm, ⟨30, _⟩ => ⟨S10000x1, .i32⟩
  | .hbm, ⟨31, _⟩ => ⟨S_, .i32⟩
  | .hbm, ⟨32, _⟩ => ⟨S10000x16, .i32⟩
  | .hbm, ⟨33, _⟩ => ⟨S10000x16, .i1⟩
  | .hbm, ⟨34, _⟩ => ⟨S_, .i32⟩
  | .hbm, ⟨35, _⟩ => ⟨S10000x16, .i32⟩
  | .hbm, ⟨36, _⟩ => ⟨S10000x16, .i32⟩
  | .hbm, ⟨37, _⟩ => ⟨S10000x16, .i32⟩
  | .hbm, ⟨38, _⟩ => ⟨S10000x16x1, .i32⟩
  | .hbm, ⟨39, _⟩ => ⟨S10000x16, .i32⟩
  | .hbm, ⟨40, _⟩ => ⟨S10000x16, .i32⟩
  | .hbm, ⟨41, _⟩ => ⟨S10000x16, .i1⟩
  | .hbm, ⟨42, _⟩ => ⟨S10000x16, .f32⟩
  | .hbm, ⟨43, _⟩ => ⟨S10000x1x3, .f32⟩
  | .hbm, ⟨44, _⟩ => ⟨S_, .i32⟩
  | .hbm, ⟨45, _⟩ => ⟨S10000x16, .i32⟩
  | .hbm, ⟨46, _⟩ => ⟨S10000x16, .i1⟩
  | .hbm, ⟨47, _⟩ => ⟨S_, .i32⟩
  | .hbm, ⟨48, _⟩ => ⟨S10000x16, .i32⟩
  | .hbm, ⟨49, _⟩ => ⟨S10000x16, .i32⟩
  | .hbm, ⟨50, _⟩ => ⟨S10000x16, .i32⟩
  | .hbm, ⟨51, _⟩ => ⟨S10000x16x1, .i32⟩
  | .hbm, ⟨52, _⟩ => ⟨S10000x16x3, .f32⟩
  | .hbm, ⟨53, _⟩ => ⟨S10000x16x3, .f32⟩
  | .hbm, ⟨54, _⟩ => ⟨S10000x16x3, .f32⟩
  | .hbm, ⟨55, _⟩ => ⟨S10000x16x3, .f32⟩
  | .hbm, ⟨56, _⟩ => ⟨S_, .f32⟩
  | .hbm, ⟨57, _⟩ => ⟨S10000x16, .f32⟩
  | .hbm, ⟨58, _⟩ => ⟨S10000x16, .f32⟩
  | .hbm, ⟨59, _⟩ => ⟨S_, .f32⟩
  | .hbm, ⟨60, _⟩ => ⟨S10000x16, .f32⟩
  | .hbm, ⟨61, _⟩ => ⟨S10000x16, .f32⟩
  | .hbm, ⟨62, _⟩ => ⟨S10000x16, .f32⟩
  | .hbm, ⟨63, _⟩ => ⟨S10000x1x3, .f32⟩
  | .hbm, ⟨64, _⟩ => ⟨S_, .i32⟩
  | .hbm, ⟨65, _⟩ => ⟨S10000x16, .i32⟩
  | .hbm, ⟨66, _⟩ => ⟨S10000x16, .i1⟩
  | .hbm, ⟨67, _⟩ => ⟨S_, .i32⟩
  | .hbm, ⟨68, _⟩ => ⟨S10000x16, .i32⟩
  | .hbm, ⟨69, _⟩ => ⟨S10000x16, .i32⟩
  | .hbm, ⟨70, _⟩ => ⟨S10000x16, .i32⟩
  | .hbm, ⟨71, _⟩ => ⟨S10000x16x1, .i32⟩
  | .hbm, ⟨72, _⟩ => ⟨S10000x16x3, .f32⟩
  | .hbm, ⟨73, _⟩ => ⟨S10000x16x3, .f32⟩
  | .hbm, ⟨74, _⟩ => ⟨S10000x16x3, .f32⟩
  | .hbm, ⟨75, _⟩ => ⟨S10000x16x3, .f32⟩
  | .hbm, ⟨76, _⟩ => ⟨S_, .f32⟩
  | .hbm, ⟨77, _⟩ => ⟨S10000x16, .f32⟩
  | .hbm, ⟨78, _⟩ => ⟨S_, .f32⟩
  | .hbm, ⟨79, _⟩ => ⟨S10000x16, .f32⟩
  | .hbm, ⟨80, _⟩ => ⟨S10000x16, .f32⟩
  | .hbm, ⟨81, _⟩ => ⟨S10000x16, .f32⟩
  | .hbm, ⟨82, _⟩ => ⟨S10000x1x64, .f32⟩
  | .hbm, ⟨83, _⟩ => ⟨S_, .i32⟩
  | .hbm, ⟨84, _⟩ => ⟨S10000x16, .i32⟩
  | .hbm, ⟨85, _⟩ => ⟨S10000x16, .i1⟩
  | .hbm, ⟨86, _⟩ => ⟨S_, .i32⟩
  | .hbm, ⟨87, _⟩ => ⟨S10000x16, .i32⟩
  | .hbm, ⟨88, _⟩ => ⟨S10000x16, .i32⟩
  | .hbm, ⟨89, _⟩ => ⟨S10000x16, .i32⟩
  | .hbm, ⟨90, _⟩ => ⟨S10000x16x1, .i32⟩
  | .hbm, ⟨91, _⟩ => ⟨S10000x16x64, .f32⟩
  | .hbm, ⟨92, _⟩ => ⟨S10000x16x64, .f32⟩
  | .hbm, ⟨93, _⟩ => ⟨S10000x16x64, .f32⟩
  | .hbm, ⟨94, _⟩ => ⟨S10000x16x64, .f32⟩
  | .hbm, ⟨95, _⟩ => ⟨S_, .f32⟩
  | .hbm, ⟨96, _⟩ => ⟨S10000x16, .f32⟩
  | .hbm, ⟨97, _⟩ => ⟨S10000x16, .f32⟩
  | .hbm, ⟨98, _⟩ => ⟨S10000x16, .f32⟩
  | .hbm, ⟨99, _⟩ => ⟨S10000x16, .f32⟩
  | .hbm, ⟨100, _⟩ => ⟨S_, .f32⟩
  | .hbm, ⟨101, _⟩ => ⟨S_, .f32⟩
  | .hbm, ⟨102, _⟩ => ⟨S_, .f32⟩
  | .hbm, ⟨103, _⟩ => ⟨S_, .f32⟩
  | .hbm, ⟨104, _⟩ => ⟨S_, .f32⟩
  | .hbm, ⟨105, _⟩ => ⟨S_, .f32⟩
  | _, _ => ⟨S10000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_1 : Ref sig .tc := ⟨.hbm, 20, rfl⟩
abbrev main_v14 : Ref sig .tc := ⟨.hbm, 21, rfl⟩
abbrev main_cst_2 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_values : Ref sig .tc := ⟨.hbm, 27, rfl⟩
abbrev main_indices : Ref sig .tc := ⟨.hbm, 28, rfl⟩
abbrev main_v19 : Ref sig .tc := ⟨.hbm, 29, rfl⟩
abbrev main_v20 : Ref sig .tc := ⟨.hbm, 30, rfl⟩
abbrev main_c : Ref sig .tc := ⟨.hbm, 31, rfl⟩
abbrev main_v21 : Ref sig .tc := ⟨.hbm, 32, rfl⟩
abbrev main_v22 : Ref sig .tc := ⟨.hbm, 33, rfl⟩
abbrev main_c_3 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_c_4 : Ref sig .tc := ⟨.hbm, 44, rfl⟩
abbrev main_v32 : Ref sig .tc := ⟨.hbm, 45, rfl⟩
abbrev main_v33 : Ref sig .tc := ⟨.hbm, 46, rfl⟩
abbrev main_c_5 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_cst_6 : Ref sig .tc := ⟨.hbm, 56, rfl⟩
abbrev main_v42 : Ref sig .tc := ⟨.hbm, 57, rfl⟩
abbrev main_v43 : Ref sig .tc := ⟨.hbm, 58, rfl⟩
abbrev main_cst_7 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_c_8 : Ref sig .tc := ⟨.hbm, 64, rfl⟩
abbrev main_v48 : Ref sig .tc := ⟨.hbm, 65, rfl⟩
abbrev main_v49 : Ref sig .tc := ⟨.hbm, 66, rfl⟩
abbrev main_c_9 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_cst_10 : Ref sig .tc := ⟨.hbm, 76, rfl⟩
abbrev main_v58 : Ref sig .tc := ⟨.hbm, 77, rfl⟩
abbrev main_cst_11 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_c_12 : Ref sig .tc := ⟨.hbm, 83, rfl⟩
abbrev main_v63 : Ref sig .tc := ⟨.hbm, 84, rfl⟩
abbrev main_v64 : Ref sig .tc := ⟨.hbm, 85, rfl⟩
abbrev main_c_13 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_cst_14 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_cst_15 : Ref sig .tc := ⟨.hbm, 100, rfl⟩
abbrev main_v77 : Ref sig .tc := ⟨.hbm, 101, rfl⟩
abbrev main_cst_16 : Ref sig .tc := ⟨.hbm, 102, rfl⟩
abbrev main_v78 : Ref sig .tc := ⟨.hbm, 103, rfl⟩
abbrev main_cst_17 : Ref sig .tc := ⟨.hbm, 104, rfl⟩
abbrev main_v79 : Ref sig .tc := ⟨.hbm, 105, rfl⟩

abbrev nD : Nat := 1
abbrev τ : Topo := Topo.v7x

variable {F : FTy → Type} [FloatOps F]
-- ==== Proof.Body.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import proofs.«01_k».proof.Proof.Gen.KernelIdeal.Loops
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # What one grid point of the loss kernel computes, from the four blocks it reads

The named values follow the kernel's text; the two selections of the sixteenth nearest point (per lane group, then
over all columns) appear as the folds of their loops, and the kernel's branch as an `if` between their results. -/

/-- Column 0 of the row block. -/
def row0 (x0 : Vec F S96x8 .f32) : Vec F S96x1 .f32 :=
  fun y => x0 ((Rect.unit (s := S96x8) ![0, 0] S96x1.size inb_S96x8_S96x1_0_0).toLoadRect.idx y)
/-- Column 1 of the row block. -/
def row1 (x0 : Vec F S96x8 .f32) : Vec F S96x1 .f32 :=
  fun y => x0 ((Rect.unit (s := S96x8) ![0, 1] S96x1.size inb_S96x8_S96x1_0_1).toLoadRect.idx y)
/-- Column 2 of the row block. -/
def row2 (x0 : Vec F S96x8 .f32) : Vec F S96x1 .f32 :=
  fun y => x0 ((Rect.unit (s := S96x8) ![0, 2] S96x1.size inb_S96x8_S96x1_0_2).toLoadRect.idx y)
/-- Column 3 of the row block. -/
def row3 (x0 : Vec F S96x8 .f32) : Vec F S96x1 .f32 :=
  fun y => x0 ((Rect.unit (s := S96x8) ![0, 3] S96x1.size inb_S96x8_S96x1_0_3).toLoadRect.idx y)
/-- Column 4 of the row block. -/
def row4 (x0 : Vec F S96x8 .f32) : Vec F S96x1 .f32 :=
  fun y => x0 ((Rect.unit (s := S96x8) ![0, 4] S96x1.size inb_S96x8_S96x1_0_4).toLoadRect.idx y)
/-- Column 5 of the row block. -/
def row5 (x0 : Vec F S96x8 .f32) : Vec F S96x1 .f32 :=
  fun y => x0 ((Rect.unit (s := S96x8) ![0, 5] S96x1.size inb_S96x8_S96x1_0_5).toLoadRect.idx y)
/-- Column 6 of the row block. -/
def row6 (x0 : Vec F S96x8 .f32) : Vec F S96x1 .f32 :=
  fun y => x0 ((Rect.unit (s := S96x8) ![0, 6] S96x1.size inb_S96x8_S96x1_0_6).toLoadRect.idx y)
/-- Plane 0 of the column table. -/
def slab0 (x1 : Vec F S8x80x128 .f32) : Vec F S1x80x128 .f32 :=
  fun y => x1 ((Rect.unit (s := S8x80x128) ![0, 0, 0] S1x80x128.size inb_S8x80x128_S1x80x128_0_0_0).toLoadRect.idx y)
/-- Plane 1 of the column table. -/
def slab1 (x1 : Vec F S8x80x128 .f32) : Vec F S1x80x128 .f32 :=
  fun y => x1 ((Rect.unit (s := S8x80x128) ![1, 0, 0] S1x80x128.size inb_S8x80x128_S1x80x128_1_0_0).toLoadRect.idx y)
/-- Plane 2 of the column table. -/
def slab2 (x1 : Vec F S8x80x128 .f32) : Vec F S1x80x128 .f32 :=
  fun y => x1 ((Rect.unit (s := S8x80x128) ![2, 0, 0] S1x80x128.size inb_S8x80x128_S1x80x128_2_0_0).toLoadRect.idx y)
/-- Plane 3 of the column table. -/
def slab3 (x1 : Vec F S8x80x128 .f32) : Vec F S1x80x128 .f32 :=
  fun y => x1 ((Rect.unit (s := S8x80x128) ![3, 0, 0] S1x80x128.size inb_S8x80x128_S1x80x128_3_0_0).toLoadRect.idx y)
/-- Plane 4 of the column table. -/
def slab4 (x1 : Vec F S8x80x128 .f32) : Vec F S1x80x128 .f32 :=
  fun y => x1 ((Rect.unit (s := S8x80x128) ![4, 0, 0] S1x80x128.size inb_S8x80x128_S1x80x128_4_0_0).toLoadRect.idx y)
/-- Plane 5 of the column table. -/
def slab5 (x1 : Vec F S8x80x128 .f32) : Vec F S1x80x128 .f32 :=
  fun y => x1 ((Rect.unit (s := S8x80x128) ![5, 0, 0] S1x80x128.size inb_S8x80x128_S1x80x128_5_0_0).toLoadRect.idx y)
/-- Plane 6 of the column table. -/
def slab6 (x1 : Vec F S8x80x128 .f32) : Vec F S1x80x128 .f32 :=
  fun y => x1 ((Rect.unit (s := S8x80x128) ![6, 0, 0] S1x80x128.size inb_S8x80x128_S1x80x128_6_0_0).toLoadRect.idx y)
/-- The whole table of normalised features and their squares, as loaded. -/
def tab (x2 : Vec F S10240x128 .f32) : Vec F S10240x128 .f32 :=
  fun y => x2 ((Rect.unit (s := S10240x128) ![0, 0] S10240x128.size inb_S10240x128_S10240x128_0_0).toLoadRect.idx y)
/-- The row block's normalised features. -/
def zrow (x3 : Vec F S96x128 .f32) : Vec F S96x64 .f32 :=
  fun y => x3 ((Rect.unit (s := S96x128) ![0, 0] S96x64.size inb_S96x128_S96x64_0_0).toLoadRect.idx y)
/-- The row block's squared normalised features. -/
def qrow (x3 : Vec F S96x128 .f32) : Vec F S96x64 .f32 :=
  fun y => x3 ((Rect.unit (s := S96x128) ![0, 64] S96x64.size inb_S96x128_S96x64_0_64).toLoadRect.idx y)

/-- The lane number of each column of the table. -/
def lanes : IVec S1x80x128 32 := iota .tc S1x80x128 32 [2] iota_S1x80x128_d2_w32
/-- The member number of each column of the table. -/
def members : IVec S1x80x128 32 := iota .tc S1x80x128 32 [1] iota_S1x80x128_d1_w32
/-- Squared distances of the block's rows to every column. -/
def d2 (x0 : Vec F S96x8 .f32) (x1 : Vec F S8x80x128 .f32) : FVec F S96x80x128 .f32 :=
  k1_pay7 (row0 x0) (row1 x0) (row2 x0) (slab0 x1) (slab1 x1) (slab2 x1)

section Fast
variable (i : grid1.Coords) (x0 : Vec F S96x8 .f32) (x1 : Vec F S8x80x128 .f32)
/-- Squared distances with the row's own column at infinity. -/
def dist : FVec F S96x80x128 .f32 := k1_pay10 (d2 x0 x1) (k1_pay9 i)
/-- Each group's four nearest distances. -/
def cand : FVec F S96x4x128 .f32 :=
  k1_pay25 members (k1_pay11 (d2 x0 x1) (k1_pay9 i)) (k1_pay15 (d2 x0 x1) members (k1_pay9 i))
    (k1_pay17 (d2 x0 x1) members (k1_pay9 i)) (k1_pay19 (d2 x0 x1) members (k1_pay9 i))
    (k1_pay20 (d2 x0 x1) members (k1_pay9 i)) 1073741824#32 (k1_pay21 members)
/-- The columns at which they occur. -/
def candCol : IVec S96x4x128 32 :=
  k1_pay26 lanes members (k1_pay14 (d2 x0 x1) lanes members (k1_pay9 i)) (k1_pay17 (d2 x0 x1) members (k1_pay9 i))
    (k1_pay18 (d2 x0 x1) lanes members (k1_pay9 i)) (k1_pay20 (d2 x0 x1) members (k1_pay9 i)) 1073741824#32
    (k1_pay21 members)
/-- One round of the merge of the candidates: the nearest candidate taken out, its distance, its column. -/
def mergeRound (a : FVec F S96x4x128 .f32 × FVec F S96x1x1 .f32 × IVec S96x1x1 32) :
    FVec F S96x4x128 .f32 × FVec F S96x1x1 .f32 × IVec S96x1x1 32 :=
  (k1_pay31 lanes members (k1_pay14 (d2 x0 x1) lanes members (k1_pay9 i)) (k1_pay17 (d2 x0 x1) members (k1_pay9 i))
      (k1_pay18 (d2 x0 x1) lanes members (k1_pay9 i)) (k1_pay20 (d2 x0 x1) members (k1_pay9 i)) 1073741824#32
      (k1_pay21 members) a.1,
    k1_pay29 a.1,
    k1_pay30 lanes members (k1_pay14 (d2 x0 x1) lanes members (k1_pay9 i)) (k1_pay17 (d2 x0 x1) members (k1_pay9 i))
      (k1_pay18 (d2 x0 x1) lanes members (k1_pay9 i)) (k1_pay20 (d2 x0 x1) members (k1_pay9 i)) 1073741824#32
      (k1_pay21 members) a.1)
/-- The sixteen rounds of the merge. -/
def fast : FVec F S96x4x128 .f32 × FVec F S96x1x1 .f32 × IVec S96x1x1 32 :=
  Scf.fold (n := k1_t1_loop.trips) (fun _ a => mergeRound i x0 x1 a) (cand i x0 x1, k1_pay27 (F := F), k1_pay28)
/-- Per row and group, how many of the group's candidates lie at or before the merge's last pick. -/
def cnt : IVec S96x128 32 :=
  k1_pay32 lanes members (k1_pay11 (d2 x0 x1) (k1_pay9 i)) (k1_pay14 (d2 x0 x1) lanes members (k1_pay9 i))
    (k1_pay15 (d2 x0 x1) members (k1_pay9 i)) (k1_pay17 (d2 x0 x1) members (k1_pay9 i))
    (k1_pay18 (d2 x0 x1) lanes members (k1_pay9 i)) (k1_pay19 (d2 x0 x1) members (k1_pay9 i))
    (k1_pay20 (d2 x0 x1) members (k1_pay9 i)) 1073741824#32 (k1_pay21 members) (fast i x0 x1).2.1 (fast i x0 x1).2.2
/-- Whether some group of some row is exhausted, so that the merge is not to be trusted. -/
def bad : BitVec 1 :=
  Scalar.cmpi .ne (Scalar.extui (Scalar.cmpi .sge (extractAt ![0, 0, 0] (k1_pay33 (cnt i x0 x1)) inpos_S1x1x1_p0_0_0) 4#32)) 0#32
/-- One round of the selection over all columns. -/
def slowRound (a : FVec F S96x80x128 .f32 × FVec F S96x1x1 .f32 × IVec S96x1x1 32) :
    FVec F S96x80x128 .f32 × FVec F S96x1x1 .f32 × IVec S96x1x1 32 :=
  (k1_pay39 k1_pay8 a.1, k1_pay37 a.1, k1_pay38 k1_pay8 a.1)
/-- The sixteen rounds of the selection over all columns. -/
def slow : FVec F S96x80x128 .f32 × FVec F S96x1x1 .f32 × IVec S96x1x1 32 :=
  Scf.fold (n := k1_t2_loop.trips) (fun _ a => slowRound a)
    (k1_pay34 (k1_pay3 (row0 x0)) (k1_pay4 (row1 x0)) (k1_pay5 (row2 x0)) (k1_pay6 i) k1_pay8 (slab0 x1) (slab1 x1) (slab2 x1),
      k1_pay35 (F := F), k1_pay36)
/-- The threshold that the branch returns: the sixteenth nearest distance and the column where it occurs. -/
def thr : FVec F S96x1x1 .f32 × IVec S96x1x1 32 := if bad i x0 x1 = 1#1 then (slow i x0 x1).2 else (fast i x0 x1).2
/-- The selected columns. -/
def sel : IVec S96x80x128 1 := k1_pay40 k1_pay8 (dist i x0 x1) (thr i x0 x1).1 (thr i x0 x1).2
end Fast

section Rest
variable (i : grid1.Coords) (x0 : Vec F S96x8 .f32) (x1 : Vec F S8x80x128 .f32) (x2 : Vec F S10240x128 .f32) (x3 : Vec F S96x128 .f32)
/-- The weights' row sums. -/
def wsum : FVec F S96x1 .f32 :=
  k1_pay46 (d2 x0 x1) (sel i x0 x1) (k1_pay41 (row6 x0) (slab6 x1)) (k1_pay42 (row3 x0) (slab3 x1)) (k1_pay43 (row4 x0)) (k1_pay44 (slab4 x1)) (row5 x0) (slab5 x1)
/-- The weights times the features. -/
def wz : FVec F S96x64 .f32 :=
  k1_pay48 (d2 x0 x1) (sel i x0 x1) (k1_pay41 (row6 x0) (slab6 x1)) (k1_pay42 (row3 x0) (slab3 x1)) (k1_pay43 (row4 x0)) (k1_pay44 (slab4 x1)) (row5 x0) (slab5 x1) (tab x2)
/-- The weights times the squared features, summed over the features. -/
def wq : FVec F S96x1 .f32 :=
  k1_pay49 (d2 x0 x1) (sel i x0 x1) (k1_pay41 (row6 x0) (slab6 x1)) (k1_pay42 (row3 x0) (slab3 x1)) (k1_pay43 (row4 x0)) (k1_pay44 (slab4 x1)) (row5 x0) (slab5 x1) (tab x2)
/-- What the point adds to the accumulator `acc`. -/
def step (acc : Vec F S1x1 .f32) : FVec F S1x1 .f32 :=
  k1_pay2 (wsum i x0 x1) (wz i x0 x1 x2) (wq i x0 x1 x2) (k1_pay50 (zrow x3)) (k1_pay51 (qrow x3)) acc
end Rest

/-- The body's branch on the first grid point. -/
abbrev first (i : grid1.Coords) : Prop := (Scalar.cmpi .ne (Scalar.extui (Scalar.cmpi .eq (BitVec.ofNat 32 (i 0).val) 0#32)) 0#32) = 1#1

end Cert.KernelIdeal.Body

end
-- ==== Proof.BodyRun.lean ====
module

public import proofs.«01_k».proof.Proof.Body
public import proofs.«01_k».proof.Proof.Gen.KernelIdeal.Skeleton
public import proofs.«01_k».proof.Proof.Gen.KernelIdeal.Points
public import Idealize.ShloMosaic.Lib.Pipeline.FrameBody
public import proofs.«01_k».proof.Proof.Gen.KernelIdeal.Loops
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp
public import Idealize.ShloMosaic.Lib.WholeRead
public import Idealize.ShloMosaic.Lib.VecWindow

@[expose] public section

set_option maxRecDepth 16384
set_option pp.maxSteps 300

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic in
/-- A load from a whole memref, as a function of what the memref holds. -/
theorem readAt_fun {sig : RefSig} {κ : Kind} {sp : Space} {s : Shape} {e : EltTy} {m : Memref sig κ sp s e} {Val : EltTy → Type} (h : m.IsWhole)
    (X : s.Idx → Val e) (B : LoadRect s) : View.readAt Val m.view B (h.unread X) = fun x => X (B.idx x) :=
  funext fun x => Memref.IsWhole.readAt_unread h X B x

theorem rd_row0 {m : Memref sig .tc .vmem S96x8 .f32} (h : m.IsWhole) (X : Vec F S96x8 .f32) : View.readAt (Elt F) m.view (Rect.unit (s := S96x8) ![0, 0] ![96, 1] inb_S96x8_S96x1_0_0).toLoadRect (h.unread X) = row0 X := readAt_fun h X _
theorem rd_slab0 {m : Memref sig .tc .vmem S8x80x128 .f32} (h : m.IsWhole) (X : Vec F S8x80x128 .f32) : View.readAt (Elt F) m.view (Rect.unit (s := S8x80x128) ![0, 0, 0] ![1, 80, 128] inb_S8x80x128_S1x80x128_0_0_0).toLoadRect (h.unread X) = slab0 X := readAt_fun h X _
theorem rd_row1 {m : Memref sig .tc .vmem S96x8 .f32} (h : m.IsWhole) (X : Vec F S96x8 .f32) : View.readAt (Elt F) m.view (Rect.unit (s := S96x8) ![0, 1] ![96, 1] inb_S96x8_S96x1_0_1).toLoadRect (h.unread X) = row1 X := readAt_fun h X _
theorem rd_slab1 {m : Memref sig .tc .vmem S8x80x128 .f32} (h : m.IsWhole) (X : Vec F S8x80x128 .f32) : View.readAt (Elt F) m.view (Rect.unit (s := S8x80x128) ![1, 0, 0] ![1, 80, 128] inb_S8x80x128_S1x80x128_1_0_0).toLoadRect (h.unread X) = slab1 X := readAt_fun h X _
theorem rd_row2 {m : Memref sig .tc .vmem S96x8 .f32} (h : m.IsWhole) (X : Vec F S96x8 .f32) : View.readAt (Elt F) m.view (Rect.unit (s := S96x8) ![0, 2] ![96, 1] inb_S96x8_S96x1_0_2).toLoadRect (h.unread X) = row2 X := readAt_fun h X _
theorem rd_slab2 {m : Memref sig .tc .vmem S8x80x128 .f32} (h : m.IsWhole) (X : Vec F S8x80x128 .f32) : View.readAt (Elt F) m.view (Rect.unit (s := S8x80x128) ![2, 0, 0] ![1, 80, 128] inb_S8x80x128_S1x80x128_2_0_0).toLoadRect (h.unread X) = slab2 X := readAt_fun h X _
theorem rd_row3 {m : Memref sig .tc .vmem S96x8 .f32} (h : m.IsWhole) (X : Vec F S96x8 .f32) : View.readAt (Elt F) m.view (Rect.unit (s := S96x8) ![0, 3] ![96, 1] inb_S96x8_S96x1_0_3).toLoadRect (h.unread X) = row3 X := readAt_fun h X _
theorem rd_slab3 {m : Memref sig .tc .vmem S8x80x128 .f32} (h : m.IsWhole) (X : Vec F S8x80x128 .f32) : View.readAt (Elt F) m.view (Rect.unit (s := S8x80x128) ![3, 0, 0] ![1, 80, 128] inb_S8x80x128_S1x80x128_3_0_0).toLoadRect (h.unread X) = slab3 X := readAt_fun h X _
theorem rd_row4 {m : Memref sig .tc .vmem S96x8 .f32} (h : m.IsWhole) (X : Vec F S96x8 .f32) : View.readAt (Elt F) m.view (Rect.unit (s := S96x8) ![0, 4] ![96, 1] inb_S96x8_S96x1_0_4).toLoadRect (h.unread X) = row4 X := readAt_fun h X _
theorem rd_slab4 {m : Memref sig .tc .vmem S8x80x128 .f32} (h : m.IsWhole) (X : Vec F S8x80x128 .f32) : View.readAt (Elt F) m.view (Rect.unit (s := S8x80x128) ![4, 0, 0] ![1, 80, 128] inb_S8x80x128_S1x80x128_4_0_0).toLoadRect (h.unread X) = slab4 X := readAt_fun h X _
theorem rd_row5 {m : Memref sig .tc .vmem S96x8 .f32} (h : m.IsWhole) (X : Vec F S96x8 .f32) : View.readAt (Elt F) m.view (Rect.unit (s := S96x8) ![0, 5] ![96, 1] inb_S96x8_S96x1_0_5).toLoadRect (h.unread X) = row5 X := readAt_fun h X _
theorem rd_slab5 {m : Memref sig .tc .vmem S8x80x128 .f32} (h : m.IsWhole) (X : Vec F S8x80x128 .f32) : View.readAt (Elt F) m.view (Rect.unit (s := S8x80x128) ![5, 0, 0] ![1, 80, 128] inb_S8x80x128_S1x80x128_5_0_0).toLoadRect (h.unread X) = slab5 X := readAt_fun h X _
theorem rd_row6 {m : Memref sig .tc .vmem S96x8 .f32} (h : m.IsWhole) (X : Vec F S96x8 .f32) : View.readAt (Elt F) m.view (Rect.unit (s := S96x8) ![0, 6] ![96, 1] inb_S96x8_S96x1_0_6).toLoadRect (h.unread X) = row6 X := readAt_fun h X _
theorem rd_slab6 {m : Memref sig .tc .vmem S8x80x128 .f32} (h : m.IsWhole) (X : Vec F S8x80x128 .f32) : View.readAt (Elt F) m.view (Rect.unit (s := S8x80x128) ![6, 0, 0] ![1, 80, 128] inb_S8x80x128_S1x80x128_6_0_0).toLoadRect (h.unread X) = slab6 X := readAt_fun h X _
theorem rd_tab {m : Memref sig .tc .vmem S10240x128 .f32} (h : m.IsWhole) (X : Vec F S10240x128 .f32) : View.readAt (Elt F) m.view (Rect.unit (s := S10240x128) ![0, 0] ![10240, 128] inb_S10240x128_S10240x128_0_0).toLoadRect (h.unread X) = tab X := readAt_fun h X _
theorem rd_zrow {m : Memref sig .tc .vmem S96x128 .f32} (h : m.IsWhole) (X : Vec F S96x128 .f32) : View.readAt (Elt F) m.view (Rect.unit (s := S96x128) ![0, 0] ![96, 64] inb_S96x128_S96x64_0_0).toLoadRect (h.unread X) = zrow X := readAt_fun h X _
theorem rd_qrow {m : Memref sig .tc .vmem S96x128 .f32} (h : m.IsWhole) (X : Vec F S96x128 .f32) : View.readAt (Elt F) m.view (Rect.unit (s := S96x128) ![0, 64] ![96, 64] inb_S96x128_S96x64_0_64).toLoadRect (h.unread X) = qrow X := readAt_fun h X _
theorem rd_acc {m : Memref sig .tc .vmem S1x1 .f32} (h : m.IsWhole) (X : Vec F S1x1 .f32) : View.readAt (Elt F) m.view (Rect.unit (s := S1x1) ![0, 0] ![1, 1] inb_S1x1_S1x1_0_0).toLoadRect (h.unread X) = X := by
  exact (View.readAt_full m.view (h.unread X) inb_S1x1_S1x1_0_0).trans (h.read_unread X)

set_option maxHeartbeats 2000000 in
/-- The body at the first grid point, where it resets the accumulator: it leaves `step` of the four blocks it reads. -/
theorem run_first (c : Dev nD) (i : grid1.Coords) (arg1 : Memref sig .tc .vmem S96x8 .f32) (harg1 : arg1.IsWhole) (arg2 : Memref sig .tc .vmem S8x80x128 .f32) (harg2 : arg2.IsWhole) (arg3 : Memref sig .tc .vmem S10240x128 .f32) (harg3 : arg3.IsWhole) (arg4 : Memref sig .tc .vmem S96x128 .f32) (harg4 : arg4.IsWhole) (arg5 : Memref sig .tc .vmem S1x1 .f32) (harg5 : arg5.IsWhole) (hc0 : first i)
    (x0 : Vec F S96x8 .f32) (x1 : Vec F S8x80x128 .f32) (x2 : Vec F S10240x128 .f32) (x3 : Vec F S96x128 .f32) (E : Set ℕ) (K : PUnit → sProp 𝕄) :
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (step i x0 x1 x2 x3 (k1_pay1 (F := F)))) -∗ K ⟨⟩))
          ⊢ wp frame (wpE (defs₀ (F := F)) Variants.none c none) E (cc1__loss_kernel i arg1 harg1 arg2 harg2 arg3 harg3 arg4 harg4 arg5 harg5) K := by
    simp only [cc1__loss_kernel_eq_skeleton]; unfold cc1__loss_kernel_skel
    simp only [k1_part1_eq_skeleton, k1_part2_eq_skeleton, k1_part3_eq_skeleton, k1_part4_eq_skeleton, k1_part5_eq_skeleton]
    unfold owns
    iintro ⟨⟨%f0, %hf0, H0⟩, ⟨%f1, %hf1, H1⟩, ⟨%f2, %hf2, H2⟩, ⟨%f3, %hf3, H3⟩, ⟨%d4, %f4, -, H4⟩, Hk⟩
    obtain rfl := harg1.eq_unread hf0; obtain rfl := harg2.eq_unread hf1; obtain rfl := harg3.eq_unread hf2; obtain rfl := harg4.eq_unread hf3
    sl_exec (disch := first | sl_exact hc0)
    have ev33 : run_first.sl.v33 = lanes := rfl
    have ev34 : run_first.sl.v34 = members := rfl
    have er : run_first.sl.r c arg1 harg1 x0 = k1_pay3 (row0 x0) := by
      delta run_first.sl.r
      try simp only [ev33, ev34, rd_row0, rd_slab0, rd_row1, rd_slab1, rd_row2, rd_slab2, rd_row3, rd_slab3, rd_row4, rd_slab4, rd_row5, rd_slab5, rd_row6, rd_slab6, rd_tab, rd_zrow, rd_qrow, rd_acc]
      all_goals rfl
    have er_1 : run_first.sl.r_1 c arg1 harg1 x0 = k1_pay4 (row1 x0) := by
      delta run_first.sl.r_1
      try simp only [ev33, ev34, er, rd_row0, rd_slab0, rd_row1, rd_slab1, rd_row2, rd_slab2, rd_row3, rd_slab3, rd_row4, rd_slab4, rd_row5, rd_slab5, rd_row6, rd_slab6, rd_tab, rd_zrow, rd_qrow, rd_acc]
      all_goals rfl
    have er_2 : run_first.sl.r_2 c arg1 harg1 x0 = k1_pay5 (row2 x0) := by
      delta run_first.sl.r_2
      try simp only [ev33, ev34, er, er_1, rd_row0, rd_slab0, rd_row1, rd_slab1, rd_row2, rd_slab2, rd_row3, rd_slab3, rd_row4, rd_slab4, rd_row5, rd_slab5, rd_row6, rd_slab6, rd_tab, rd_zrow, rd_qrow, rd_acc]
      all_goals rfl
    have er_3 : run_first.sl.r_3 c arg1 harg1 arg2 harg2 x0 x1 = d2 x0 x1 := by
      delta run_first.sl.r_3
      try simp only [ev33, ev34, er, er_1, er_2, rd_row0, rd_slab0, rd_row1, rd_slab1, rd_row2, rd_slab2, rd_row3, rd_slab3, rd_row4, rd_slab4, rd_row5, rd_slab5, rd_row6, rd_slab6, rd_tab, rd_zrow, rd_qrow, rd_acc]
      all_goals rfl
    have er_4 : run_first.sl.r_4 c i arg1 harg1 arg2 harg2 x0 x1 = dist i x0 x1 := by
      delta run_first.sl.r_4
      try simp only [ev33, ev34, er, er_1, er_2, er_3, rd_row0, rd_slab0, rd_row1, rd_slab1, rd_row2, rd_slab2, rd_row3, rd_slab3, rd_row4, rd_slab4, rd_row5, rd_slab5, rd_row6, rd_slab6, rd_tab, rd_zrow, rd_qrow, rd_acc]
      all_goals rfl
    have er_5 : run_first.sl.r_5 c i arg1 harg1 arg2 harg2 x0 x1 = k1_pay11 (d2 x0 x1) (k1_pay9 i) := by
      delta run_first.sl.r_5
      try simp only [ev33, ev34, er, er_1, er_2, er_3, er_4, rd_row0, rd_slab0, rd_row1, rd_slab1, rd_row2, rd_slab2, rd_row3, rd_slab3, rd_row4, rd_slab4, rd_row5, rd_slab5, rd_row6, rd_slab6, rd_tab, rd_zrow, rd_qrow, rd_acc]
      all_goals rfl
    have er_6 : run_first.sl.r_6 c i arg1 harg1 arg2 harg2 x0 x1 = k1_pay14 (d2 x0 x1) lanes members (k1_pay9 i) := by
      delta run_first.sl.r_6
      try simp only [ev33, ev34, er, er_1, er_2, er_3, er_4, er_5, rd_row0, rd_slab0, rd_row1, rd_slab1, rd_row2, rd_slab2, rd_row3, rd_slab3, rd_row4, rd_slab4, rd_row5, rd_slab5, rd_row6, rd_slab6, rd_tab, rd_zrow, rd_qrow, rd_acc]
      all_goals rfl
    have er_7 : run_first.sl.r_7 c i arg1 harg1 arg2 harg2 x0 x1 = k1_pay15 (d2 x0 x1) members (k1_pay9 i) := by
      delta run_first.sl.r_7
      try simp only [ev33, ev34, er, er_1, er_2, er_3, er_4, er_5, er_6, rd_row0, rd_slab0, rd_row1, rd_slab1, rd_row2, rd_slab2, rd_row3, rd_slab3, rd_row4, rd_slab4, rd_row5, rd_slab5, rd_row6, rd_slab6, rd_tab, rd_zrow, rd_qrow, rd_acc]
      all_goals rfl
    have er_8 : run_first.sl.r_8 c i arg1 harg1 arg2 harg2 x0 x1 = k1_pay17 (d2 x0 x1) members (k1_pay9 i) := by
      delta run_first.sl.r_8
      try simp only [ev33, ev34, er, er_1, er_2, er_3, er_4, er_5, er_6, er_7, rd_row0, rd_slab0, rd_row1, rd_slab1, rd_row2, rd_slab2, rd_row3, rd_slab3, rd_row4, rd_slab4, rd_row5, rd_slab5, rd_row6, rd_slab6, rd_tab, rd_zrow, rd_qrow, rd_acc]
      all_goals rfl
    have er_9 : run_first.sl.r_9 c i arg1 harg1 arg2 harg2 x0 x1 = k1_pay18 (d2 x0 x1) lanes members (k1_pay9 i) := by
      delta run_first.sl.r_9
      try simp only [ev33, ev34, er, er_1, er_2, er_3, er_4, er_5, er_6, er_7, er_8, rd_row0, rd_slab0, rd_row1, rd_slab1, rd_row2, rd_slab2, rd_row3, rd_slab3, rd_row4, rd_slab4, rd_row5, rd_slab5, rd_row6, rd_slab6, rd_tab, rd_zrow, rd_qrow, rd_acc]
      all_goals rfl
    have er_10 : run_first.sl.r_10 c i arg1 harg1 arg2 harg2 x0 x1 = k1_pay19 (d2 x0 x1) members (k1_pay9 i) := by
      delta run_first.sl.r_10
      try simp only [ev33, ev34, er, er_1, er_2, er_3, er_4, er_5, er_6, er_7, er_8, er_9, rd_row0, rd_slab0, rd_row1, rd_slab1, rd_row2, rd_slab2, rd_row3, rd_slab3, rd_row4, rd_slab4, rd_row5, rd_slab5, rd_row6, rd_slab6, rd_tab, rd_zrow, rd_qrow, rd_acc]
      all_goals rfl
    have er_11 : run_first.sl.r_11 c i arg1 harg1 arg2 harg2 x0 x1 = k1_pay20 (d2 x0 x1) members (k1_pay9 i) := by
      delta run_first.sl.r_11
      try simp only [ev33, ev34, er, er_1, er_2, er_3, er_4, er_5, er_6, er_7, er_8, er_9, er_10, rd_row0, rd_slab0, rd_row1, rd_slab1, rd_row2, rd_slab2, rd_row3, rd_slab3, rd_row4, rd_slab4, rd_row5, rd_slab5, rd_row6, rd_slab6, rd_tab, rd_zrow, rd_qrow, rd_acc]
      all_goals rfl
    have er_12 : run_first.sl.r_12 c i arg1 harg1 arg2 harg2 x0 x1 = fast i x0 x1 := by
      delta run_first.sl.r_12
      try simp only [ev33, ev34, er, er_1, er_2, er_3, er_4, er_5, er_6, er_7, er_8, er_9, er_10, er_11, rd_row0, rd_slab0, rd_row1, rd_slab1, rd_row2, rd_slab2, rd_row3, rd_slab3, rd_row4, rd_slab4, rd_row5, rd_slab5, rd_row6, rd_slab6, rd_tab, rd_zrow, rd_qrow, rd_acc]
      all_goals rfl
    have er_13 : run_first.sl.r_13 c i arg1 harg1 arg2 harg2 x0 x1 = (fast i x0 x1).2.1 := by
      delta run_first.sl.r_13
      try simp only [ev33, ev34, er, er_1, er_2, er_3, er_4, er_5, er_6, er_7, er_8, er_9, er_10, er_11, er_12, rd_row0, rd_slab0, rd_row1, rd_slab1, rd_row2, rd_slab2, rd_row3, rd_slab3, rd_row4, rd_slab4, rd_row5, rd_slab5, rd_row6, rd_slab6, rd_tab, rd_zrow, rd_qrow, rd_acc]
      all_goals rfl
    have er_14 : run_first.sl.r_14 c i arg1 harg1 arg2 harg2 x0 x1 = (fast i x0 x1).2.2 := by
      delta run_first.sl.r_14
      try simp only [ev33, ev34, er, er_1, er_2, er_3, er_4, er_5, er_6, er_7, er_8, er_9, er_10, er_11, er_12, er_13, rd_row0, rd_slab0, rd_row1, rd_slab1, rd_row2, rd_slab2, rd_row3, rd_slab3, rd_row4, rd_slab4, rd_row5, rd_slab5, rd_row6, rd_slab6, rd_tab, rd_zrow, rd_qrow, rd_acc]
      all_goals rfl
    have er_15 : run_first.sl.r_15 c i arg1 harg1 arg2 harg2 x0 x1 = cnt i x0 x1 := by
      delta run_first.sl.r_15
      try simp only [ev33, ev34, er, er_1, er_2, er_3, er_4, er_5, er_6, er_7, er_8, er_9, er_10, er_11, er_12, er_13, er_14, rd_row0, rd_slab0, rd_row1, rd_slab1, rd_row2, rd_slab2, rd_row3, rd_slab3, rd_row4, rd_slab4, rd_row5, rd_slab5, rd_row6, rd_slab6, rd_tab, rd_zrow, rd_qrow, rd_acc]
      all_goals rfl
    have ebad : run_first.sl.v143 c i arg1 harg1 arg2 harg2 x0 x1 = bad i x0 x1 := by
      delta run_first.sl.v143 run_first.sl.v142 run_first.sl.v141 run_first.sl.v140
      simp only [ev33, ev34, er, er_1, er_2, er_3, er_4, er_5, er_6, er_7, er_8, er_9, er_10, er_11, er_12, er_13, er_14, er_15]
      rfl
    split
    · rename_i hb
      sl_exec (disch := first | sl_exact hc0)
      sl_step
      iapply Hk
      isplitl [H0]
      · iexists _; isplitr; · ipureintro; exact harg1.read_unread _
        iexact H0
      isplitl [H1]
      · iexists _; isplitr; · ipureintro; exact harg2.read_unread _
        iexact H1
      isplitl [H2]
      · iexists _; isplitr; · ipureintro; exact harg3.read_unread _
        iexact H2
      isplitl [H3]
      · iexists _; isplitr; · ipureintro; exact harg4.read_unread _
        iexact H3
      iexists _
      isplitr
      swap
      · iexact H4
      ipureintro
      rw [View.read_writes_full]
      have hthr : thr i x0 x1 = (slow i x0 x1).2 := if_pos (ebad ▸ hb)
      have er_16 : run_first.sl.r_16 c i arg1 harg1 arg2 harg2 x0 x1 = slow i x0 x1 := by
        delta run_first.sl.r_16
        try simp only [ev33, ev34, er, er_1, er_2, er_3, er_4, er_5, er_6, er_7, er_8, er_9, er_10, er_11, er_12, er_13, er_14, er_15, rd_row0, rd_slab0, rd_row1, rd_slab1, rd_row2, rd_slab2, rd_row3, rd_slab3, rd_row4, rd_slab4, rd_row5, rd_slab5, rd_row6, rd_slab6, rd_tab, rd_zrow, rd_qrow, rd_acc]
        all_goals rfl
      have er_17 : run_first.sl.r_17 c i arg1 harg1 arg2 harg2 x0 x1 = sel i x0 x1 := by
        unfold sel; rw [hthr]
        delta run_first.sl.r_17
        try simp only [ev33, ev34, er, er_1, er_2, er_3, er_4, er_5, er_6, er_7, er_8, er_9, er_10, er_11, er_12, er_13, er_14, er_15, er_16, rd_row0, rd_slab0, rd_row1, rd_slab1, rd_row2, rd_slab2, rd_row3, rd_slab3, rd_row4, rd_slab4, rd_row5, rd_slab5, rd_row6, rd_slab6, rd_tab, rd_zrow, rd_qrow, rd_acc]
        all_goals rfl
      have er_18 : run_first.sl.r_18 c arg1 harg1 arg2 harg2 x0 x1 = k1_pay41 (row6 x0) (slab6 x1) := by
        delta run_first.sl.r_18
        try simp only [ev33, ev34, er, er_1, er_2, er_3, er_4, er_5, er_6, er_7, er_8, er_9, er_10, er_11, er_12, er_13, er_14, er_15, er_16, er_17, rd_row0, rd_slab0, rd_row1, rd_slab1, rd_row2, rd_slab2, rd_row3, rd_slab3, rd_row4, rd_slab4, rd_row5, rd_slab5, rd_row6, rd_slab6, rd_tab, rd_zrow, rd_qrow, rd_acc]
        all_goals rfl
      have er_19 : run_first.sl.r_19 c arg1 harg1 arg2 harg2 x0 x1 = k1_pay42 (row3 x0) (slab3 x1) := by
        delta run_first.sl.r_19
        try simp only [ev33, ev34, er, er_1, er_2, er_3, er_4, er_5, er_6, er_7, er_8, er_9, er_10, er_11, er_12, er_13, er_14, er_15, er_16, er_17, er_18, rd_row0, rd_slab0, rd_row1, rd_slab1, rd_row2, rd_slab2, rd_row3, rd_slab3, rd_row4, rd_slab4, rd_row5, rd_slab5, rd_row6, rd_slab6, rd_tab, rd_zrow, rd_qrow, rd_acc]
        all_goals rfl
      have er_20 : run_first.sl.r_20 c arg1 harg1 x0 = k1_pay43 (row4 x0) := by
        delta run_first.sl.r_20
        try simp only [ev33, ev34, er, er_1, er_2, er_3, er_4, er_5, er_6, er_7, er_8, er_9, er_10, er_11, er_12, er_13, er_14, er_15, er_16, er_17, er_18, er_19, rd_row0, rd_slab0, rd_row1, rd_slab1, rd_row2, rd_slab2, rd_row3, rd_slab3, rd_row4, rd_slab4, rd_row5, rd_slab5, rd_row6, rd_slab6, rd_tab, rd_zrow, rd_qrow, rd_acc]
        all_goals rfl
      have er_21 : run_first.sl.r_21 c arg2 harg2 x1 = k1_pay44 (slab4 x1) := by
        delta run_first.sl.r_21
        try simp only [ev33, ev34, er, er_1, er_2, er_3, er_4, er_5, er_6, er_7, er_8, er_9, er_10, er_11, er_12, er_13, er_14, er_15, er_16, er_17, er_18, er_19, er_20, rd_row0, rd_slab0, rd_row1, rd_slab1, rd_row2, rd_slab2, rd_row3, rd_slab3, rd_row4, rd_slab4, rd_row5, rd_slab5, rd_row6, rd_slab6, rd_tab, rd_zrow, rd_qrow, rd_acc]
        all_goals rfl
      have er_22 : run_first.sl.r_22 c i arg1 harg1 arg2 harg2 x0 x1 = wsum i x0 x1 := by
        delta run_first.sl.r_22
        try simp only [ev33, ev34, er, er_1, er_2, er_3, er_4, er_5, er_6, er_7, er_8, er_9, er_10, er_11, er_12, er_13, er_14, er_15, er_16, er_17, er_18, er_19, er_20, er_21, rd_row0, rd_slab0, rd_row1, rd_slab1, rd_row2, rd_slab2, rd_row3, rd_slab3, rd_row4, rd_slab4, rd_row5, rd_slab5, rd_row6, rd_slab6, rd_tab, rd_zrow, rd_qrow, rd_acc]
        all_goals rfl
      have er_23 : run_first.sl.r_23 c i arg1 harg1 arg2 harg2 arg3 harg3 x0 x1 x2 = wz i x0 x1 x2 := by
        delta run_first.sl.r_23
        try simp only [ev33, ev34, er, er_1, er_2, er_3, er_4, er_5, er_6, er_7, er_8, er_9, er_10, er_11, er_12, er_13, er_14, er_15, er_16, er_17, er_18, er_19, er_20, er_21, er_22, rd_row0, rd_slab0, rd_row1, rd_slab1, rd_row2, rd_slab2, rd_row3, rd_slab3, rd_row4, rd_slab4, rd_row5, rd_slab5, rd_row6, rd_slab6, rd_tab, rd_zrow, rd_qrow, rd_acc]
        all_goals rfl
      have er_24 : run_first.sl.r_24 c i arg1 harg1 arg2 harg2 arg3 harg3 x0 x1 x2 = wq i x0 x1 x2 := by
        delta run_first.sl.r_24
        try simp only [ev33, ev34, er, er_1, er_2, er_3, er_4, er_5, er_6, er_7, er_8, er_9, er_10, er_11, er_12, er_13, er_14, er_15, er_16, er_17, er_18, er_19, er_20, er_21, er_22, er_23, rd_row0, rd_slab0, rd_row1, rd_slab1, rd_row2, rd_slab2, rd_row3, rd_slab3, rd_row4, rd_slab4, rd_row5, rd_slab5, rd_row6, rd_slab6, rd_tab, rd_zrow, rd_qrow, rd_acc]
        all_goals rfl
      have er_25 : run_first.sl.r_25 c arg4 harg4 x3 = k1_pay50 (zrow x3) := by
        delta run_first.sl.r_25
        try simp only [ev33, ev34, er, er_1, er_2, er_3, er_4, er_5, er_6, er_7, er_8, er_9, er_10, er_11, er_12, er_13, er_14, er_15, er_16, er_17, er_18, er_19, er_20, er_21, er_22, er_23, er_24, rd_row0, rd_slab0, rd_row1, rd_slab1, rd_row2, rd_slab2, rd_row3, rd_slab3, rd_row4, rd_slab4, rd_row5, rd_slab5, rd_row6, rd_slab6, rd_tab, rd_zrow, rd_qrow, rd_acc]
        all_goals rfl
      have er_26 : run_first.sl.r_26 c arg4 harg4 x3 = k1_pay51 (qrow x3) := by
        delta run_first.sl.r_26
        try simp only [ev33, ev34, er, er_1, er_2, er_3, er_4, er_5, er_6, er_7, er_8, er_9, er_10, er_11, er_12, er_13, er_14, er_15, er_16, er_17, er_18, er_19, er_20, er_21, er_22, er_23, er_24, er_25, rd_row0, rd_slab0, rd_row1, rd_slab1, rd_row2, rd_slab2, rd_row3, rd_slab3, rd_row4, rd_slab4, rd_row5, rd_slab5, rd_row6, rd_slab6, rd_tab, rd_zrow, rd_qrow, rd_acc]
        all_goals rfl
      rw [er_22, er_23, er_24, er_25, er_26]
      delta run_first.sl.v232
      delta run_first.sl.H4_1
      exact congrArg (k1_pay2 _ _ _ _ _) (View.readCov_full (s := S1x1) arg5.view inb_S1x1_S1x1_0_0 inb_S1x1_S1x1_0_0 _ _)
    · rename_i hb
      sl_exec (disch := first | sl_exact hc0)
      sl_step
      iapply Hk
      isplitl [H0]
      · iexists _; isplitr; · ipureintro; exact harg1.read_unread _
        iexact H0
      isplitl [H1]
      · iexists _; isplitr; · ipureintro; exact harg2.read_unread _
        iexact H1
      isplitl [H2]
      · iexists _; isplitr; · ipureintro; exact harg3.read_unread _
        iexact H2
      isplitl [H3]
      · iexists _; isplitr; · ipureintro; exact harg4.read_unread _
        iexact H3
      iexists _
      isplitr
      swap
      · iexact H4
      ipureintro
      rw [View.read_writes_full]
      have hthr : thr i x0 x1 = (fast i x0 x1).2 := if_neg (ebad ▸ hb)
      have er_27 : run_first.sl.r_27 c i arg1 harg1 arg2 harg2 x0 x1 = sel i x0 x1 := by
        unfold sel; rw [hthr]
        delta run_first.sl.r_27
        try simp only [ev33, ev34, er, er_1, er_2, er_3, er_4, er_5, er_6, er_7, er_8, er_9, er_10, er_11, er_12, er_13, er_14, er_15, rd_row0, rd_slab0, rd_row1, rd_slab1, rd_row2, rd_slab2, rd_row3, rd_slab3, rd_row4, rd_slab4, rd_row5, rd_slab5, rd_row6, rd_slab6, rd_tab, rd_zrow, rd_qrow, rd_acc]
        all_goals rfl
      have er_28 : run_first.sl.r_28 c arg1 harg1 arg2 harg2 x0 x1 = k1_pay41 (row6 x0) (slab6 x1) := by
        delta run_first.sl.r_28
        try simp only [ev33, ev34, er, er_1, er_2, er_3, er_4, er_5, er_6, er_7, er_8, er_9, er_10, er_11, er_12, er_13, er_14, er_15, er_27, rd_row0, rd_slab0, rd_row1, rd_slab1, rd_row2, rd_slab2, rd_row3, rd_slab3, rd_row4, rd_slab4, rd_row5, rd_slab5, rd_row6, rd_slab6, rd_tab, rd_zrow, rd_qrow, rd_acc]
        all_goals rfl
      have er_29 : run_first.sl.r_29 c arg1 harg1 arg2 harg2 x0 x1 = k1_pay42 (row3 x0) (slab3 x1) := by
        delta run_first.sl.r_29
        try simp only [ev33, ev34, er, er_1, er_2, er_3, er_4, er_5, er_6, er_7, er_8, er_9, er_10, er_11, er_12, er_13, er_14, er_15, er_27, er_28, rd_row0, rd_slab0, rd_row1, rd_slab1, rd_row2, rd_slab2, rd_row3, rd_slab3, rd_row4, rd_slab4, rd_row5, rd_slab5, rd_row6, rd_slab6, rd_tab, rd_zrow, rd_qrow, rd_acc]
        all_goals rfl
      have er_30 : run_first.sl.r_30 c arg1 harg1 x0 = k1_pay43 (row4 x0) := by
        delta run_first.sl.r_30
        try simp only [ev33, ev34, er, er_1, er_2, er_3, er_4, er_5, er_6, er_7, er_8, er_9, er_10, er_11, er_12, er_13, er_14, er_15, er_27, er_28, er_29, rd_row0, rd_slab0, rd_row1, rd_slab1, rd_row2, rd_slab2, rd_row3, rd_slab3, rd_row4, rd_slab4, rd_row5, rd_slab5, rd_row6, rd_slab6, rd_tab, rd_zrow, rd_qrow, rd_acc]
        all_goals rfl
      have er_31 : run_first.sl.r_31 c arg2 harg2 x1 = k1_pay44 (slab4 x1) := by
        delta run_first.sl.r_31
        try simp only [ev33, ev34, er, er_1, er_2, er_3, er_4, er_5, er_6, er_7, er_8, er_9, er_10, er_11, er_12, er_13, er_14, er_15, er_27, er_28, er_29, er_30, rd_row0, rd_slab0, rd_row1, rd_slab1, rd_row2, rd_slab2, rd_row3, rd_slab3, rd_row4, rd_slab4, rd_row5, rd_slab5, rd_row6, rd_slab6, rd_tab, rd_zrow, rd_qrow, rd_acc]
        all_goals rfl
      have er_32 : run_first.sl.r_32 c i arg1 harg1 arg2 harg2 x0 x1 = wsum i x0 x1 := by
        delta run_first.sl.r_32
        try simp only [ev33, ev34, er, er_1, er_2, er_3, er_4, er_5, er_6, er_7, er_8, er_9, er_10, er_11, er_12, er_13, er_14, er_15, er_27, er_28, er_29, er_30, er_31, rd_row0, rd_slab0, rd_row1, rd_slab1, rd_row2, rd_slab2, rd_row3, rd_slab3, rd_row4, rd_slab4, rd_row5, rd_slab5, rd_row6, rd_slab6, rd_tab, rd_zrow, rd_qrow, rd_acc]
        all_goals rfl
      have er_33 : run_first.sl.r_33 c i arg1 harg1 arg2 harg2 arg3 harg3 x0 x1 x2 = wz i x0 x1 x2 := by
        delta run_first.sl.r_33
        try simp only [ev33, ev34, er, er_1, er_2, er_3, er_4, er_5, er_6, er_7, er_8, er_9, er_10, er_11, er_12, er_13, er_14, er_15, er_27, er_28, er_29, er_30, er_31, er_32, rd_row0, rd_slab0, rd_row1, rd_slab1, rd_row2, rd_slab2, rd_row3, rd_slab3, rd_row4, rd_slab4, rd_row5, rd_slab5, rd_row6, rd_slab6, rd_tab, rd_zrow, rd_qrow, rd_acc]
        all_goals rfl
      have er_34 : run_first.sl.r_34 c i arg1 harg1 arg2 harg2 arg3 harg3 x0 x1 x2 = wq i x0 x1 x2 := by
        delta run_first.sl.r_34
        try simp only [ev33, ev34, er, er_1, er_2, er_3, er_4, er_5, er_6, er_7, er_8, er_9, er_10, er_11, er_12, er_13, er_14, er_15, er_27, er_28, er_29, er_30, er_31, er_32, er_33, rd_row0, rd_slab0, rd_row1, rd_slab1, rd_row2, rd_slab2, rd_row3, rd_slab3, rd_row4, rd_slab4, rd_row5, rd_slab5, rd_row6, rd_slab6, rd_tab, rd_zrow, rd_qrow, rd_acc]
        all_goals rfl
      have er_35 : run_first.sl.r_35 c arg4 harg4 x3 = k1_pay50 (zrow x3) := by
        delta run_first.sl.r_35
        try simp only [ev33, ev34, er, er_1, er_2, er_3, er_4, er_5, er_6, er_7, er_8, er_9, er_10, er_11, er_12, er_13, er_14, er_15, er_27, er_28, er_29, er_30, er_31, er_32, er_33, er_34, rd_row0, rd_slab0, rd_row1, rd_slab1, rd_row2, rd_slab2, rd_row3, rd_slab3, rd_row4, rd_slab4, rd_row5, rd_slab5, rd_row6, rd_slab6, rd_tab, rd_zrow, rd_qrow, rd_acc]
        all_goals rfl
      have er_36 : run_first.sl.r_36 c arg4 harg4 x3 = k1_pay51 (qrow x3) := by
        delta run_first.sl.r_36
        try simp only [ev33, ev34, er, er_1, er_2, er_3, er_4, er_5, er_6, er_7, er_8, er_9, er_10, er_11, er_12, er_13, er_14, er_15, er_27, er_28, er_29, er_30, er_31, er_32, er_33, er_34, er_35, rd_row0, rd_slab0, rd_row1, rd_slab1, rd_row2, rd_slab2, rd_row3, rd_slab3, rd_row4, rd_slab4, rd_row5, rd_slab5, rd_row6, rd_slab6, rd_tab, rd_zrow, rd_qrow, rd_acc]
        all_goals rfl
      rw [er_32, er_33, er_34, er_35, er_36]
      delta run_first.sl.v232_1
      delta run_first.sl.H4_1_1
      exact congrArg (k1_pay2 _ _ _ _ _) (View.readCov_full (s := S1x1) arg5.view inb_S1x1_S1x1_0_0 inb_S1x1_S1x1_0_0 _ _)

set_option maxHeartbeats 2000000 in
/-- The body at a later grid point: it leaves `step` of the four blocks it reads. -/
theorem run_next (c : Dev nD) (i : grid1.Coords) (arg1 : Memref sig .tc .vmem S96x8 .f32) (harg1 : arg1.IsWhole) (arg2 : Memref sig .tc .vmem S8x80x128 .f32) (harg2 : arg2.IsWhole) (arg3 : Memref sig .tc .vmem S10240x128 .f32) (harg3 : arg3.IsWhole) (arg4 : Memref sig .tc .vmem S96x128 .f32) (harg4 : arg4.IsWhole) (arg5 : Memref sig .tc .vmem S1x1 .f32) (harg5 : arg5.IsWhole) (hc0 : ¬first i)
    (x0 : Vec F S96x8 .f32) (x1 : Vec F S8x80x128 .f32) (x2 : Vec F S10240x128 .f32) (x3 : Vec F S96x128 .f32) (xo : Vec F S1x1 .f32) (E : Set ℕ) (K : PUnit → sProp 𝕄) :
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare xo
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (step i x0 x1 x2 x3 xo)) -∗ K ⟨⟩))
          ⊢ wp frame (wpE (defs₀ (F := F)) Variants.none c none) E (cc1__loss_kernel i arg1 harg1 arg2 harg2 arg3 harg3 arg4 harg4 arg5 harg5) K := by
    simp only [cc1__loss_kernel_eq_skeleton]; unfold cc1__loss_kernel_skel
    simp only [k1_part1_eq_skeleton, k1_part2_eq_skeleton, k1_part3_eq_skeleton, k1_part4_eq_skeleton, k1_part5_eq_skeleton]
    unfold owns
    iintro ⟨⟨%f0, %hf0, H0⟩, ⟨%f1, %hf1, H1⟩, ⟨%f2, %hf2, H2⟩, ⟨%f3, %hf3, H3⟩, ⟨%f4, %hf4, H4⟩, Hk⟩
    obtain rfl := harg1.eq_unread hf0; obtain rfl := harg2.eq_unread hf1; obtain rfl := harg3.eq_unread hf2; obtain rfl := harg4.eq_unread hf3; obtain rfl := harg5.eq_unread hf4
    sl_exec (disch := first | sl_exact hc0)
    have ev33 : run_next.sl.v33 = lanes := rfl
    have ev34 : run_next.sl.v34 = members := rfl
    have er : run_next.sl.r c arg1 harg1 x0 = k1_pay3 (row0 x0) := by
      delta run_next.sl.r
      try simp only [ev33, ev34, rd_row0, rd_slab0, rd_row1, rd_slab1, rd_row2, rd_slab2, rd_row3, rd_slab3, rd_row4, rd_slab4, rd_row5, rd_slab5, rd_row6, rd_slab6, rd_tab, rd_zrow, rd_qrow, rd_acc]
      all_goals rfl
    have er_1 : run_next.sl.r_1 c arg1 harg1 x0 = k1_pay4 (row1 x0) := by
      delta run_next.sl.r_1
      try simp only [ev33, ev34, er, rd_row0, rd_slab0, rd_row1, rd_slab1, rd_row2, rd_slab2, rd_row3, rd_slab3, rd_row4, rd_slab4, rd_row5, rd_slab5, rd_row6, rd_slab6, rd_tab, rd_zrow, rd_qrow, rd_acc]
      all_goals rfl
    have er_2 : run_next.sl.r_2 c arg1 harg1 x0 = k1_pay5 (row2 x0) := by
      delta run_next.sl.r_2
      try simp only [ev33, ev34, er, er_1, rd_row0, rd_slab0, rd_row1, rd_slab1, rd_row2, rd_slab2, rd_row3, rd_slab3, rd_row4, rd_slab4, rd_row5, rd_slab5, rd_row6, rd_slab6, rd_tab, rd_zrow, rd_qrow, rd_acc]
      all_goals rfl
    have er_3 : run_next.sl.r_3 c arg1 harg1 arg2 harg2 x0 x1 = d2 x0 x1 := by
      delta run_next.sl.r_3
      try simp only [ev33, ev34, er, er_1, er_2, rd_row0, rd_slab0, rd_row1, rd_slab1, rd_row2, rd_slab2, rd_row3, rd_slab3, rd_row4, rd_slab4, rd_row5, rd_slab5, rd_row6, rd_slab6, rd_tab, rd_zrow, rd_qrow, rd_acc]
      all_goals rfl
    have er_4 : run_next.sl.r_4 c i arg1 harg1 arg2 harg2 x0 x1 = dist i x0 x1 := by
      delta run_next.sl.r_4
      try simp only [ev33, ev34, er, er_1, er_2, er_3, rd_row0, rd_slab0, rd_row1, rd_slab1, rd_row2, rd_slab2, rd_row3, rd_slab3, rd_row4, rd_slab4, rd_row5, rd_slab5, rd_row6, rd_slab6, rd_tab, rd_zrow, rd_qrow, rd_acc]
      all_goals rfl
    have er_5 : run_next.sl.r_5 c i arg1 harg1 arg2 harg2 x0 x1 = k1_pay11 (d2 x0 x1) (k1_pay9 i) := by
      delta run_next.sl.r_5
      try simp only [ev33, ev34, er, er_1, er_2, er_3, er_4, rd_row0, rd_slab0, rd_row1, rd_slab1, rd_row2, rd_slab2, rd_row3, rd_slab3, rd_row4, rd_slab4, rd_row5, rd_slab5, rd_row6, rd_slab6, rd_tab, rd_zrow, rd_qrow, rd_acc]
      all_goals rfl
    have er_6 : run_next.sl.r_6 c i arg1 harg1 arg2 harg2 x0 x1 = k1_pay14 (d2 x0 x1) lanes members (k1_pay9 i) := by
      delta run_next.sl.r_6
      try simp only [ev33, ev34, er, er_1, er_2, er_3, er_4, er_5, rd_row0, rd_slab0, rd_row1, rd_slab1, rd_row2, rd_slab2, rd_row3, rd_slab3, rd_row4, rd_slab4, rd_row5, rd_slab5, rd_row6, rd_slab6, rd_tab, rd_zrow, rd_qrow, rd_acc]
      all_goals rfl
    have er_7 : run_next.sl.r_7 c i arg1 harg1 arg2 harg2 x0 x1 = k1_pay15 (d2 x0 x1) members (k1_pay9 i) := by
      delta run_next.sl.r_7
      try simp only [ev33, ev34, er, er_1, er_2, er_3, er_4, er_5, er_6, rd_row0, rd_slab0, rd_row1, rd_slab1, rd_row2, rd_slab2, rd_row3, rd_slab3, rd_row4, rd_slab4, rd_row5, rd_slab5, rd_row6, rd_slab6, rd_tab, rd_zrow, rd_qrow, rd_acc]
      all_goals rfl
    have er_8 : run_next.sl.r_8 c i arg1 harg1 arg2 harg2 x0 x1 = k1_pay17 (d2 x0 x1) members (k1_pay9 i) := by
      delta run_next.sl.r_8
      try simp only [ev33, ev34, er, er_1, er_2, er_3, er_4, er_5, er_6, er_7, rd_row0, rd_slab0, rd_row1, rd_slab1, rd_row2, rd_slab2, rd_row3, rd_slab3, rd_row4, rd_slab4, rd_row5, rd_slab5, rd_row6, rd_slab6, rd_tab, rd_zrow, rd_qrow, rd_acc]
      all_goals rfl
    have er_9 : run_next.sl.r_9 c i arg1 harg1 arg2 harg2 x0 x1 = k1_pay18 (d2 x0 x1) lanes members (k1_pay9 i) := by
      delta run_next.sl.r_9
      try simp only [ev33, ev34, er, er_1, er_2, er_3, er_4, er_5, er_6, er_7, er_8, rd_row0, rd_slab0, rd_row1, rd_slab1, rd_row2, rd_slab2, rd_row3, rd_slab3, rd_row4, rd_slab4, rd_row5, rd_slab5, rd_row6, rd_slab6, rd_tab, rd_zrow, rd_qrow, rd_acc]
      all_goals rfl
    have er_10 : run_next.sl.r_10 c i arg1 harg1 arg2 harg2 x0 x1 = k1_pay19 (d2 x0 x1) members (k1_pay9 i) := by
      delta run_next.sl.r_10
      try simp only [ev33, ev34, er, er_1, er_2, er_3, er_4, er_5, er_6, er_7, er_8, er_9, rd_row0, rd_slab0, rd_row1, rd_slab1, rd_row2, rd_slab2, rd_row3, rd_slab3, rd_row4, rd_slab4, rd_row5, rd_slab5, rd_row6, rd_slab6, rd_tab, rd_zrow, rd_qrow, rd_acc]
      all_goals rfl
    have er_11 : run_next.sl.r_11 c i arg1 harg1 arg2 harg2 x0 x1 = k1_pay20 (d2 x0 x1) members (k1_pay9 i) := by
      delta run_next.sl.r_11
      try simp only [ev33, ev34, er, er_1, er_2, er_3, er_4, er_5, er_6, er_7, er_8, er_9, er_10, rd_row0, rd_slab0, rd_row1, rd_slab1, rd_row2, rd_slab2, rd_row3, rd_slab3, rd_row4, rd_slab4, rd_row5, rd_slab5, rd_row6, rd_slab6, rd_tab, rd_zrow, rd_qrow, rd_acc]
      all_goals rfl
    have er_12 : run_next.sl.r_12 c i arg1 harg1 arg2 harg2 x0 x1 = fast i x0 x1 := by
      delta run_next.sl.r_12
      try simp only [ev33, ev34, er, er_1, er_2, er_3, er_4, er_5, er_6, er_7, er_8, er_9, er_10, er_11, rd_row0, rd_slab0, rd_row1, rd_slab1, rd_row2, rd_slab2, rd_row3, rd_slab3, rd_row4, rd_slab4, rd_row5, rd_slab5, rd_row6, rd_slab6, rd_tab, rd_zrow, rd_qrow, rd_acc]
      all_goals rfl
    have er_13 : run_next.sl.r_13 c i arg1 harg1 arg2 harg2 x0 x1 = (fast i x0 x1).2.1 := by
      delta run_next.sl.r_13
      try simp only [ev33, ev34, er, er_1, er_2, er_3, er_4, er_5, er_6, er_7, er_8, er_9, er_10, er_11, er_12, rd_row0, rd_slab0, rd_row1, rd_slab1, rd_row2, rd_slab2, rd_row3, rd_slab3, rd_row4, rd_slab4, rd_row5, rd_slab5, rd_row6, rd_slab6, rd_tab, rd_zrow, rd_qrow, rd_acc]
      all_goals rfl
    have er_14 : run_next.sl.r_14 c i arg1 harg1 arg2 harg2 x0 x1 = (fast i x0 x1).2.2 := by
      delta run_next.sl.r_14
      try simp only [ev33, ev34, er, er_1, er_2, er_3, er_4, er_5, er_6, er_7, er_8, er_9, er_10, er_11, er_12, er_13, rd_row0, rd_slab0, rd_row1, rd_slab1, rd_row2, rd_slab2, rd_row3, rd_slab3, rd_row4, rd_slab4, rd_row5, rd_slab5, rd_row6, rd_slab6, rd_tab, rd_zrow, rd_qrow, rd_acc]
      all_goals rfl
    have er_15 : run_next.sl.r_15 c i arg1 harg1 arg2 harg2 x0 x1 = cnt i x0 x1 := by
      delta run_next.sl.r_15
      try simp only [ev33, ev34, er, er_1, er_2, er_3, er_4, er_5, er_6, er_7, er_8, er_9, er_10, er_11, er_12, er_13, er_14, rd_row0, rd_slab0, rd_row1, rd_slab1, rd_row2, rd_slab2, rd_row3, rd_slab3, rd_row4, rd_slab4, rd_row5, rd_slab5, rd_row6, rd_slab6, rd_tab, rd_zrow, rd_qrow, rd_acc]
      all_goals rfl
    have ebad : run_next.sl.v143 c i arg1 harg1 arg2 harg2 x0 x1 = bad i x0 x1 := by
      delta run_next.sl.v143 run_next.sl.v142 run_next.sl.v141 run_next.sl.v140
      simp only [ev33, ev34, er, er_1, er_2, er_3, er_4, er_5, er_6, er_7, er_8, er_9, er_10, er_11, er_12, er_13, er_14, er_15]
      rfl
    split
    · rename_i hb
      sl_exec (disch := first | sl_exact hc0)
      sl_step
      iapply Hk
      isplitl [H0]
      · iexists _; isplitr; · ipureintro; exact harg1.read_unread _
        iexact H0
      isplitl [H1]
      · iexists _; isplitr; · ipureintro; exact harg2.read_unread _
        iexact H1
      isplitl [H2]
      · iexists _; isplitr; · ipureintro; exact harg3.read_unread _
        iexact H2
      isplitl [H3]
      · iexists _; isplitr; · ipureintro; exact harg4.read_unread _
        iexact H3
      iexists _
      isplitr
      swap
      · iexact H4
      ipureintro
      rw [View.read_writes_full]
      have hthr : thr i x0 x1 = (slow i x0 x1).2 := if_pos (ebad ▸ hb)
      have er_16 : run_next.sl.r_16 c i arg1 harg1 arg2 harg2 x0 x1 = slow i x0 x1 := by
        delta run_next.sl.r_16
        try simp only [ev33, ev34, er, er_1, er_2, er_3, er_4, er_5, er_6, er_7, er_8, er_9, er_10, er_11, er_12, er_13, er_14, er_15, rd_row0, rd_slab0, rd_row1, rd_slab1, rd_row2, rd_slab2, rd_row3, rd_slab3, rd_row4, rd_slab4, rd_row5, rd_slab5, rd_row6, rd_slab6, rd_tab, rd_zrow, rd_qrow, rd_acc]
        all_goals rfl
      have er_17 : run_next.sl.r_17 c i arg1 harg1 arg2 harg2 x0 x1 = sel i x0 x1 := by
        unfold sel; rw [hthr]
        delta run_next.sl.r_17
        try simp only [ev33, ev34, er, er_1, er_2, er_3, er_4, er_5, er_6, er_7, er_8, er_9, er_10, er_11, er_12, er_13, er_14, er_15, er_16, rd_row0, rd_slab0, rd_row1, rd_slab1, rd_row2, rd_slab2, rd_row3, rd_slab3, rd_row4, rd_slab4, rd_row5, rd_slab5, rd_row6, rd_slab6, rd_tab, rd_zrow, rd_qrow, rd_acc]
        all_goals rfl
      have er_18 : run_next.sl.r_18 c arg1 harg1 arg2 harg2 x0 x1 = k1_pay41 (row6 x0) (slab6 x1) := by
        delta run_next.sl.r_18
        try simp only [ev33, ev34, er, er_1, er_2, er_3, er_4, er_5, er_6, er_7, er_8, er_9, er_10, er_11, er_12, er_13, er_14, er_15, er_16, er_17, rd_row0, rd_slab0, rd_row1, rd_slab1, rd_row2, rd_slab2, rd_row3, rd_slab3, rd_row4, rd_slab4, rd_row5, rd_slab5, rd_row6, rd_slab6, rd_tab, rd_zrow, rd_qrow, rd_acc]
        all_goals rfl
      have er_19 : run_next.sl.r_19 c arg1 harg1 arg2 harg2 x0 x1 = k1_pay42 (row3 x0) (slab3 x1) := by
        delta run_next.sl.r_19
        try simp only [ev33, ev34, er, er_1, er_2, er_3, er_4, er_5, er_6, er_7, er_8, er_9, er_10, er_11, er_12, er_13, er_14, er_15, er_16, er_17, er_18, rd_row0, rd_slab0, rd_row1, rd_slab1, rd_row2, rd_slab2, rd_row3, rd_slab3, rd_row4, rd_slab4, rd_row5, rd_slab5, rd_row6, rd_slab6, rd_tab, rd_zrow, rd_qrow, rd_acc]
        all_goals rfl
      have er_20 : run_next.sl.r_20 c arg1 harg1 x0 = k1_pay43 (row4 x0) := by
        delta run_next.sl.r_20
        try simp only [ev33, ev34, er, er_1, er_2, er_3, er_4, er_5, er_6, er_7, er_8, er_9, er_10, er_11, er_12, er_13, er_14, er_15, er_16, er_17, er_18, er_19, rd_row0, rd_slab0, rd_row1, rd_slab1, rd_row2, rd_slab2, rd_row3, rd_slab3, rd_row4, rd_slab4, rd_row5, rd_slab5, rd_row6, rd_slab6, rd_tab, rd_zrow, rd_qrow, rd_acc]
        all_goals rfl
      have er_21 : run_next.sl.r_21 c arg2 harg2 x1 = k1_pay44 (slab4 x1) := by
        delta run_next.sl.r_21
        try simp only [ev33, ev34, er, er_1, er_2, er_3, er_4, er_5, er_6, er_7, er_8, er_9, er_10, er_11, er_12, er_13, er_14, er_15, er_16, er_17, er_18, er_19, er_20, rd_row0, rd_slab0, rd_row1, rd_slab1, rd_row2, rd_slab2, rd_row3, rd_slab3, rd_row4, rd_slab4, rd_row5, rd_slab5, rd_row6, rd_slab6, rd_tab, rd_zrow, rd_qrow, rd_acc]
        all_goals rfl
      have er_22 : run_next.sl.r_22 c i arg1 harg1 arg2 harg2 x0 x1 = wsum i x0 x1 := by
        delta run_next.sl.r_22
        try simp only [ev33, ev34, er, er_1, er_2, er_3, er_4, er_5, er_6, er_7, er_8, er_9, er_10, er_11, er_12, er_13, er_14, er_15, er_16, er_17, er_18, er_19, er_20, er_21, rd_row0, rd_slab0, rd_row1, rd_slab1, rd_row2, rd_slab2, rd_row3, rd_slab3, rd_row4, rd_slab4, rd_row5, rd_slab5, rd_row6, rd_slab6, rd_tab, rd_zrow, rd_qrow, rd_acc]
        all_goals rfl
      have er_23 : run_next.sl.r_23 c i arg1 harg1 arg2 harg2 arg3 harg3 x0 x1 x2 = wz i x0 x1 x2 := by
        delta run_next.sl.r_23
        try simp only [ev33, ev34, er, er_1, er_2, er_3, er_4, er_5, er_6, er_7, er_8, er_9, er_10, er_11, er_12, er_13, er_14, er_15, er_16, er_17, er_18, er_19, er_20, er_21, er_22, rd_row0, rd_slab0, rd_row1, rd_slab1, rd_row2, rd_slab2, rd_row3, rd_slab3, rd_row4, rd_slab4, rd_row5, rd_slab5, rd_row6, rd_slab6, rd_tab, rd_zrow, rd_qrow, rd_acc]
        all_goals rfl
      have er_24 : run_next.sl.r_24 c i arg1 harg1 arg2 harg2 arg3 harg3 x0 x1 x2 = wq i x0 x1 x2 := by
        delta run_next.sl.r_24
        try simp only [ev33, ev34, er, er_1, er_2, er_3, er_4, er_5, er_6, er_7, er_8, er_9, er_10, er_11, er_12, er_13, er_14, er_15, er_16, er_17, er_18, er_19, er_20, er_21, er_22, er_23, rd_row0, rd_slab0, rd_row1, rd_slab1, rd_row2, rd_slab2, rd_row3, rd_slab3, rd_row4, rd_slab4, rd_row5, rd_slab5, rd_row6, rd_slab6, rd_tab, rd_zrow, rd_qrow, rd_acc]
        all_goals rfl
      have er_25 : run_next.sl.r_25 c arg4 harg4 x3 = k1_pay50 (zrow x3) := by
        delta run_next.sl.r_25
        try simp only [ev33, ev34, er, er_1, er_2, er_3, er_4, er_5, er_6, er_7, er_8, er_9, er_10, er_11, er_12, er_13, er_14, er_15, er_16, er_17, er_18, er_19, er_20, er_21, er_22, er_23, er_24, rd_row0, rd_slab0, rd_row1, rd_slab1, rd_row2, rd_slab2, rd_row3, rd_slab3, rd_row4, rd_slab4, rd_row5, rd_slab5, rd_row6, rd_slab6, rd_tab, rd_zrow, rd_qrow, rd_acc]
        all_goals rfl
      have er_26 : run_next.sl.r_26 c arg4 harg4 x3 = k1_pay51 (qrow x3) := by
        delta run_next.sl.r_26
        try simp only [ev33, ev34, er, er_1, er_2, er_3, er_4, er_5, er_6, er_7, er_8, er_9, er_10, er_11, er_12, er_13, er_14, er_15, er_16, er_17, er_18, er_19, er_20, er_21, er_22, er_23, er_24, er_25, rd_row0, rd_slab0, rd_row1, rd_slab1, rd_row2, rd_slab2, rd_row3, rd_slab3, rd_row4, rd_slab4, rd_row5, rd_slab5, rd_row6, rd_slab6, rd_tab, rd_zrow, rd_qrow, rd_acc]
        all_goals rfl
      rw [er_22, er_23, er_24, er_25, er_26]
      exact congrArg (k1_pay2 _ _ _ _ _) (rd_acc harg5 xo)
    · rename_i hb
      sl_exec (disch := first | sl_exact hc0)
      sl_step
      iapply Hk
      isplitl [H0]
      · iexists _; isplitr; · ipureintro; exact harg1.read_unread _
        iexact H0
      isplitl [H1]
      · iexists _; isplitr; · ipureintro; exact harg2.read_unread _
        iexact H1
      isplitl [H2]
      · iexists _; isplitr; · ipureintro; exact harg3.read_unread _
        iexact H2
      isplitl [H3]
      · iexists _; isplitr; · ipureintro; exact harg4.read_unread _
        iexact H3
      iexists _
      isplitr
      swap
      · iexact H4
      ipureintro
      rw [View.read_writes_full]
      have hthr : thr i x0 x1 = (fast i x0 x1).2 := if_neg (ebad ▸ hb)
      have er_27 : run_next.sl.r_27 c i arg1 harg1 arg2 harg2 x0 x1 = sel i x0 x1 := by
        unfold sel; rw [hthr]
        delta run_next.sl.r_27
        try simp only [ev33, ev34, er, er_1, er_2, er_3, er_4, er_5, er_6, er_7, er_8, er_9, er_10, er_11, er_12, er_13, er_14, er_15, rd_row0, rd_slab0, rd_row1, rd_slab1, rd_row2, rd_slab2, rd_row3, rd_slab3, rd_row4, rd_slab4, rd_row5, rd_slab5, rd_row6, rd_slab6, rd_tab, rd_zrow, rd_qrow, rd_acc]
        all_goals rfl
      have er_28 : run_next.sl.r_28 c arg1 harg1 arg2 harg2 x0 x1 = k1_pay41 (row6 x0) (slab6 x1) := by
        delta run_next.sl.r_28
        try simp only [ev33, ev34, er, er_1, er_2, er_3, er_4, er_5, er_6, er_7, er_8, er_9, er_10, er_11, er_12, er_13, er_14, er_15, er_27, rd_row0, rd_slab0, rd_row1, rd_slab1, rd_row2, rd_slab2, rd_row3, rd_slab3, rd_row4, rd_slab4, rd_row5, rd_slab5, rd_row6, rd_slab6, rd_tab, rd_zrow, rd_qrow, rd_acc]
        all_goals rfl
      have er_29 : run_next.sl.r_29 c arg1 harg1 arg2 harg2 x0 x1 = k1_pay42 (row3 x0) (slab3 x1) := by
        delta run_next.sl.r_29
        try simp only [ev33, ev34, er, er_1, er_2, er_3, er_4, er_5, er_6, er_7, er_8, er_9, er_10, er_11, er_12, er_13, er_14, er_15, er_27, er_28, rd_row0, rd_slab0, rd_row1, rd_slab1, rd_row2, rd_slab2, rd_row3, rd_slab3, rd_row4, rd_slab4, rd_row5, rd_slab5, rd_row6, rd_slab6, rd_tab, rd_zrow, rd_qrow, rd_acc]
        all_goals rfl
      have er_30 : run_next.sl.r_30 c arg1 harg1 x0 = k1_pay43 (row4 x0) := by
        delta run_next.sl.r_30
        try simp only [ev33, ev34, er, er_1, er_2, er_3, er_4, er_5, er_6, er_7, er_8, er_9, er_10, er_11, er_12, er_13, er_14, er_15, er_27, er_28, er_29, rd_row0, rd_slab0, rd_row1, rd_slab1, rd_row2, rd_slab2, rd_row3, rd_slab3, rd_row4, rd_slab4, rd_row5, rd_slab5, rd_row6, rd_slab6, rd_tab, rd_zrow, rd_qrow, rd_acc]
        all_goals rfl
      have er_31 : run_next.sl.r_31 c arg2 harg2 x1 = k1_pay44 (slab4 x1) := by
        delta run_next.sl.r_31
        try simp only [ev33, ev34, er, er_1, er_2, er_3, er_4, er_5, er_6, er_7, er_8, er_9, er_10, er_11, er_12, er_13, er_14, er_15, er_27, er_28, er_29, er_30, rd_row0, rd_slab0, rd_row1, rd_slab1, rd_row2, rd_slab2, rd_row3, rd_slab3, rd_row4, rd_slab4, rd_row5, rd_slab5, rd_row6, rd_slab6, rd_tab, rd_zrow, rd_qrow, rd_acc]
        all_goals rfl
      have er_32 : run_next.sl.r_32 c i arg1 harg1 arg2 harg2 x0 x1 = wsum i x0 x1 := by
        delta run_next.sl.r_32
        try simp only [ev33, ev34, er, er_1, er_2, er_3, er_4, er_5, er_6, er_7, er_8, er_9, er_10, er_11, er_12, er_13, er_14, er_15, er_27, er_28, er_29, er_30, er_31, rd_row0, rd_slab0, rd_row1, rd_slab1, rd_row2, rd_slab2, rd_row3, rd_slab3, rd_row4, rd_slab4, rd_row5, rd_slab5, rd_row6, rd_slab6, rd_tab, rd_zrow, rd_qrow, rd_acc]
        all_goals rfl
      have er_33 : run_next.sl.r_33 c i arg1 harg1 arg2 harg2 arg3 harg3 x0 x1 x2 = wz i x0 x1 x2 := by
        delta run_next.sl.r_33
        try simp only [ev33, ev34, er, er_1, er_2, er_3, er_4, er_5, er_6, er_7, er_8, er_9, er_10, er_11, er_12, er_13, er_14, er_15, er_27, er_28, er_29, er_30, er_31, er_32, rd_row0, rd_slab0, rd_row1, rd_slab1, rd_row2, rd_slab2, rd_row3, rd_slab3, rd_row4, rd_slab4, rd_row5, rd_slab5, rd_row6, rd_slab6, rd_tab, rd_zrow, rd_qrow, rd_acc]
        all_goals rfl
      have er_34 : run_next.sl.r_34 c i arg1 harg1 arg2 harg2 arg3 harg3 x0 x1 x2 = wq i x0 x1 x2 := by
        delta run_next.sl.r_34
        try simp only [ev33, ev34, er, er_1, er_2, er_3, er_4, er_5, er_6, er_7, er_8, er_9, er_10, er_11, er_12, er_13, er_14, er_15, er_27, er_28, er_29, er_30, er_31, er_32, er_33, rd_row0, rd_slab0, rd_row1, rd_slab1, rd_row2, rd_slab2, rd_row3, rd_slab3, rd_row4, rd_slab4, rd_row5, rd_slab5, rd_row6, rd_slab6, rd_tab, rd_zrow, rd_qrow, rd_acc]
        all_goals rfl
      have er_35 : run_next.sl.r_35 c arg4 harg4 x3 = k1_pay50 (zrow x3) := by
        delta run_next.sl.r_35
        try simp only [ev33, ev34, er, er_1, er_2, er_3, er_4, er_5, er_6, er_7, er_8, er_9, er_10, er_11, er_12, er_13, er_14, er_15, er_27, er_28, er_29, er_30, er_31, er_32, er_33, er_34, rd_row0, rd_slab0, rd_row1, rd_slab1, rd_row2, rd_slab2, rd_row3, rd_slab3, rd_row4, rd_slab4, rd_row5, rd_slab5, rd_row6, rd_slab6, rd_tab, rd_zrow, rd_qrow, rd_acc]
        all_goals rfl
      have er_36 : run_next.sl.r_36 c arg4 harg4 x3 = k1_pay51 (qrow x3) := by
        delta run_next.sl.r_36
        try simp only [ev33, ev34, er, er_1, er_2, er_3, er_4, er_5, er_6, er_7, er_8, er_9, er_10, er_11, er_12, er_13, er_14, er_15, er_27, er_28, er_29, er_30, er_31, er_32, er_33, er_34, er_35, rd_row0, rd_slab0, rd_row1, rd_slab1, rd_row2, rd_slab2, rd_row3, rd_slab3, rd_row4, rd_slab4, rd_row5, rd_slab5, rd_row6, rd_slab6, rd_tab, rd_zrow, rd_qrow, rd_acc]
        all_goals rfl
      rw [er_32, er_33, er_34, er_35, er_36]
      exact congrArg (k1_pay2 _ _ _ _ _) (rd_acc harg5 xo)

end Cert.KernelIdeal.Body

end
-- ==== Proof.Region0.lean ====
module

public import proofs.«01_k».proof.Proof.BodyRun
public import proofs.«01_k».proof.Proof.Gen.KernelIdeal.Skeleton
public import proofs.«01_k».proof.Proof.Gen.KernelIdeal.Points
public import Idealize.ShloMosaic.Lib.Pipeline.FrameBody
public import proofs.«01_k».proof.Proof.Gen.KernelIdeal.Loops
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.KernelIdeal.Run

open Cert.KernelIdeal Cert.KernelIdeal.Gen Cert.KernelIdeal.Body
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # The first launch: the normalised features, at the buffer contents `V` it is entered with -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0 holds its block at every point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- One staging buffer of the output, through which its contents are stated. -/
abbrev VO0_1 : View sig .tc .vmem S10240x128 .f32 := (Memref.whole cc0_stg1_0 : Memref sig .tc .vmem S10240x128 .f32).view
/-- Each window's current staging memref at point `t`, spelled as the pipeline passes it (`bodyAt0`), and its wholeness. -/
abbrev ms0_0 (t : Fin cfg0.N) : Memref sig .tc .vmem S10000x64 .f32 := win0_0.stage (cfg0.slots t 0)
abbrev hs0_0 (t : Fin cfg0.N) : (ms0_0 t).IsWhole := hstage0_0 0
abbrev ms0_1 (t : Fin cfg0.N) : Memref sig .tc .vmem S10240x128 .f32 := win0_1.stage (cfg0.slots t 1)
abbrev hs0_1 (t : Fin cfg0.N) : (ms0_1 t).IsWhole := hstage0_1 0

set_option maxHeartbeats 1000000 in
/-- The pieces the body stores, with its triple. -/
noncomputable def kernelRun0_A (c : Dev nD) (arg0 : Memref sig .tc .vmem S10000x64 .f32) (harg0 : arg0.IsWhole) (arg1 : Memref sig .tc .vmem S10240x128 .f32) (harg1 : arg1.IsWhole)
    (x0 : Vec F S10000x64 .f32) :
    { L1 : List (View.Piece (Elt F) S10240x128 .f32) //
      ∀ (E : Set ℕ) (K : PUnit → sProp 𝕄),
        iprop(owns (c : Thread nD τ) arg0 fullShare x0 ∗ (∃ d, owns (c : Thread nD τ) arg1 fullShare d)
            ∗ (iprop(owns (c : Thread nD τ) arg0 fullShare x0 ∗ (∃ f, arg1.view.loc (c : Thread nD τ) ↦[arg1.view.set]{fullShare} arg1.view.writes (Elt F) f L1)) -∗ K ⟨⟩))
          ⊢ wp frame (wpE (defs₀ (F := F)) Variants.none c none) E (cc0__normalize_kernel arg0 harg0 arg1 harg1) K } := by
  refine ⟨?_, fun E K => ?run⟩
  case run =>
    simp only [cc0__normalize_kernel_eq_skeleton]; unfold cc0__normalize_kernel_skel
    unfold owns
    iintro ⟨⟨%f0, %hf0, H0⟩, ⟨%d1, %f1, -, H1⟩, Hk⟩
    obtain rfl := harg0.eq_unread hf0
    sl_exec
    sl_step
    iapply Hk
    isplitl [H0]
    · iexists _; isplitr; · ipureintro; exact harg0.read_unread _
      iexact H0
    iexists _; iexact H1

/-- The pieces cover the output. -/
theorem cover0_A_1 (c : Dev nD) (arg0 : Memref sig .tc .vmem S10000x64 .f32) (harg0 : arg0.IsWhole) (arg1 : Memref sig .tc .vmem S10240x128 .f32) (harg1 : arg1.IsWhole)
    (x0 : Vec F S10000x64 .f32) (y : S10240x128.Idx) :
    ∃ pc ∈ (kernelRun0_A c arg0 harg0 arg1 harg1 x0).1, y ∈ pc.1.set :=
  View.cover_of_tiledBy (kernelRun0_A c arg0 harg0 arg1 harg1 x0).1 ![80, 64] (by sl_kernel_rfl) y

/-- What the run leaves in the output. -/
def out0_A_1 (c : Dev nD) (arg0 : Memref sig .tc .vmem S10000x64 .f32) (harg0 : arg0.IsWhole) (arg1 : Memref sig .tc .vmem S10240x128 .f32) (harg1 : arg1.IsWhole)
    (x0 : Vec F S10000x64 .f32) : Vec F S10240x128 .f32 :=
  VO0_1.read (Elt F) (VO0_1.writes (Elt F) VO0_1.junk (kernelRun0_A c arg0 harg0 arg1 harg1 x0).1)

/-- What the output holds after point `t`. -/
def outsAt0 (c : Dev nD) (t : Fin cfg0.N) : Vec F S10240x128 .f32 :=
  out0_A_1 c (ms0_0 t) (hs0_0 t) (ms0_1 t) (hs0_1 t) (iblk0 V c 0 t)

/-- The proof data of pipeline 0. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => (outsAt0 V c t)
  Φ _ := Pipeline.ΦA spec0 c
  q _ := fullShare
  owed _ := 0

/-- The proof data's arrays are the entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = (outsAt0 V c t) := by dsimp only [dat0]

/-- Each input holds its block at every point. -/
theorem before0_0 (c : Dev nD) (t : Fin cfg0.N) (d) : (dat0 V c).before 0 t d = iblk0 V c 0 t :=
  before0_0_of V (dat0 V c) (A_eq0 V c 0) (after0_0 V c) t d

/-- What the body is called with at point `t`. -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d)))

/-- What it returns. -/
def bodyPost0 (c : Dev nD) (t : Fin cfg0.N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t))

/-- The body at any point. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1]
  unfold outsAt0
  unfold out0_A_1
  iintro ⟨HΦ, Ho, ⟨%d0, H0⟩, ⟨%d1, H1⟩⟩
  iapply ((kernelRun0_A c _ _ _ _ (iblk0 V c 0 t)).2 Set.univ _)
  isplitl [H0]; · iexact H0
  isplitl [H1]; · iexists _; iexact H1
  iintro ⟨H0, ⟨%e1, H1⟩⟩
  isplitl [HΦ]; · iexact HΦ
  isplitl [Ho]; · iexact Ho
  isplitl [H0]; · iexact H0
  unfold owns; iexists _; isplitr
  swap; · iexact H1
  ipureintro; exact View.read_writes_of_cover _ _ _ _ _ (cover0_A_1 c _ _ _ _ _)

/-- The body table's row is the body. -/
theorem defs₀_row0 (t : Fin cfg0.N) :
    defs₀ (F := F) .tc cfg0.body (cfg0.bodyArgs t (cfg0.slots t)) = bodyAt0 t := by
  unfold defs₀; rw [Defs.onTc_tc]

/-- The body obligation. -/
theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

end Cert.KernelIdeal.Run

end
-- ==== Proof.Region1.lean ====
module

public import proofs.«01_k».proof.Proof.BodyRun
public import proofs.«01_k».proof.Proof.Gen.KernelIdeal.Skeleton
public import proofs.«01_k».proof.Proof.Gen.KernelIdeal.Points
public import Idealize.ShloMosaic.Lib.Pipeline.FrameBody
public import proofs.«01_k».proof.Proof.Gen.KernelIdeal.Loops
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.KernelIdeal.Run

open Cert.KernelIdeal Cert.KernelIdeal.Gen Cert.KernelIdeal.Body
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # The second launch: the loss, at the buffer contents `V` it is entered with -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- A default for the part of a block that a transfer would leave out; no block the grid reaches is cut. -/
def dflt1_0 : (cfg1.win 0).block.Idx → Elt F (cfg1.win 0).elt := fun _ => Classical.choice inferInstance
/-- What input window 0 holds when the body runs at `t`: its block read off the array. -/
def X1_0 (c : Dev nD) (t : Fin cfg1.N) : (cfg1.win 0).block.Idx → Elt F (cfg1.win 0).elt :=
  (cfg1.win 0).fill (cfg1.grid.coords t) dflt1_0 (iblk1 V c 0 t)
/-- No transfer of input window 0 is cut. -/
theorem xsize1_0 : ∀ t : Fin cfg1.N, ∀ a, (cfg1.win 0).xsize (cfg1.grid.coords t) a = (cfg1.win 0).size a := by decide +kernel
/-- Every index of input window 0's block is moved at every point. -/
theorem moved1_0 (t : Fin cfg1.N) (j : (cfg1.win 0).block.Idx) : (cfg1.win 0).moved (cfg1.grid.coords t) j = true :=
  ((cfg1.win 0).moved_iff _ j).mpr fun a => by rw [xsize1_0 t a]; exact (j a).isLt
/-- A fill of input window 0's block covers the whole buffer, whatever it held. -/
theorem fill1_0 (t : Fin cfg1.N) (d d' : (cfg1.win 0).block.Idx → Elt F (cfg1.win 0).elt) (g) :
    (cfg1.win 0).fill (cfg1.grid.coords t) d g = (cfg1.win 0).fill (cfg1.grid.coords t) d' g := by
  funext j; unfold Pipeline.Window.fill; rw [dif_pos (moved1_0 t j), dif_pos (moved1_0 t j)]
/-- Input window 0 holds its block at every point. -/
theorem before1_0_of {c : Dev nD} (dat : Dat τ (Elt F) Unit ℕ (UR sig nD τ) ℕ cfg1 c) (hA : dat.A 0 = V c (Pipeline.arrRef spec1 0))
    (hafter : ∀ t, dat.after 0 t = X1_0 V c t) (t : Fin cfg1.N) (d) : dat.before 0 t d = X1_0 V c t :=
  (dat.before_in_eq_fetched 0 rfl (fun _ => rfl)
      (fun t t' h => funext fun a => congrArg (fun n => Pipeline.Clip.of n ((cfg1.win 0).size a) (S10240x8.size a)) (congrFun h a))
      (fun t => by rw [hafter]; unfold X1_0; rw [Pipeline.Window.cut_fill]; unfold Dat.blockOf iblk1; rw [hA]; try rfl) t d).trans
    (by unfold Dat.fetched X1_0; rw [fill1_0 t d dflt1_0]; unfold Dat.blockOf iblk1; rw [hA]; try rfl)
/-- A default for the part of a block that a transfer would leave out; no block the grid reaches is cut. -/
def dflt1_3 : (cfg1.win 3).block.Idx → Elt F (cfg1.win 3).elt := fun _ => Classical.choice inferInstance
/-- What input window 3 holds when the body runs at `t`: its block read off the array. -/
def X1_3 (c : Dev nD) (t : Fin cfg1.N) : (cfg1.win 3).block.Idx → Elt F (cfg1.win 3).elt :=
  (cfg1.win 3).fill (cfg1.grid.coords t) dflt1_3 (iblk1 V c 3 t)
/-- No transfer of input window 3 is cut. -/
theorem xsize1_3 : ∀ t : Fin cfg1.N, ∀ a, (cfg1.win 3).xsize (cfg1.grid.coords t) a = (cfg1.win 3).size a := by decide +kernel
/-- Every index of input window 3's block is moved at every point. -/
theorem moved1_3 (t : Fin cfg1.N) (j : (cfg1.win 3).block.Idx) : (cfg1.win 3).moved (cfg1.grid.coords t) j = true :=
  ((cfg1.win 3).moved_iff _ j).mpr fun a => by rw [xsize1_3 t a]; exact (j a).isLt
/-- A fill of input window 3's block covers the whole buffer, whatever it held. -/
theorem fill1_3 (t : Fin cfg1.N) (d d' : (cfg1.win 3).block.Idx → Elt F (cfg1.win 3).elt) (g) :
    (cfg1.win 3).fill (cfg1.grid.coords t) d g = (cfg1.win 3).fill (cfg1.grid.coords t) d' g := by
  funext j; unfold Pipeline.Window.fill; rw [dif_pos (moved1_3 t j), dif_pos (moved1_3 t j)]
/-- Input window 3 holds its block at every point. -/
theorem before1_3_of {c : Dev nD} (dat : Dat τ (Elt F) Unit ℕ (UR sig nD τ) ℕ cfg1 c) (hA : dat.A 3 = V c (Pipeline.arrRef spec1 3))
    (hafter : ∀ t, dat.after 3 t = X1_3 V c t) (t : Fin cfg1.N) (d) : dat.before 3 t d = X1_3 V c t :=
  (dat.before_in_eq_fetched 3 rfl (fun _ => rfl)
      (fun t t' h => funext fun a => congrArg (fun n => Pipeline.Clip.of n ((cfg1.win 3).size a) (S10240x128.size a)) (congrFun h a))
      (fun t => by rw [hafter]; unfold X1_3; rw [Pipeline.Window.cut_fill]; unfold Dat.blockOf iblk1; rw [hA]; try rfl) t d).trans
    (by unfold Dat.fetched X1_3; rw [fill1_3 t d dflt1_3]; unfold Dat.blockOf iblk1; rw [hA]; try rfl)
/-- Input window 1 holds its block at every point. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2 holds its block at every point. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- The reset is taken at the first point only. -/
theorem first_iff : ∀ t : Fin cfg1.N, first (grid1.coords t) ↔ t.val % 105 = 0 :=
  (fun t => by
    have ht : t.val < 105 := Nat.lt_of_lt_of_eq t.isLt N_1
    have e0 : (grid1.coords t 0).val = t.val / 1 % 105 := Pipeline.Grid.coords_val t 0 (by decide) rfl
    simp only [first, e0]
    word_cmp
   : ∀ t : Fin grid1.N, first (grid1.coords t) ↔ t.val % 105 = 0)

/-- Window 0's current staging memref at point `t`. -/
abbrev ms1_0 (t : Fin cfg1.N) : Memref sig .tc .vmem S96x8 .f32 := win1_0.stage (cfg1.slots t 0)
abbrev hs1_0 (t : Fin cfg1.N) : (ms1_0 t).IsWhole := hstage1_0 ((cfg1.slots t 0).cast nbuf1_0)
/-- Window 1's current staging memref at point `t`. -/
abbrev ms1_1 (t : Fin cfg1.N) : Memref sig .tc .vmem S8x80x128 .f32 := win1_1.stage (cfg1.slots t 1)
abbrev hs1_1 (t : Fin cfg1.N) : (ms1_1 t).IsWhole := hstage1_1 ((cfg1.slots t 1).cast nbuf1_1)
/-- Window 2's current staging memref at point `t`. -/
abbrev ms1_2 (t : Fin cfg1.N) : Memref sig .tc .vmem S10240x128 .f32 := win1_2.stage (cfg1.slots t 2)
abbrev hs1_2 (t : Fin cfg1.N) : (ms1_2 t).IsWhole := hstage1_2 ((cfg1.slots t 2).cast nbuf1_2)
/-- Window 3's current staging memref at point `t`. -/
abbrev ms1_3 (t : Fin cfg1.N) : Memref sig .tc .vmem S96x128 .f32 := win1_3.stage (cfg1.slots t 3)
abbrev hs1_3 (t : Fin cfg1.N) : (ms1_3 t).IsWhole := hstage1_3 ((cfg1.slots t 3).cast nbuf1_3)
/-- Window 4's current staging memref at point `t`. -/
abbrev ms1_4 (t : Fin cfg1.N) : Memref sig .tc .vmem S1x1 .f32 := win1_4.stage (cfg1.slots t 4)
abbrev hs1_4 (t : Fin cfg1.N) : (ms1_4 t).IsWhole := hstage1_4 ((cfg1.slots t 4).cast nbuf1_4)

/-- What the accumulator holds after the body at position `n`. -/
def acc1 (c : Dev nD) : (n : ℕ) → n < cfg1.N → Vec F S1x1 .f32
  | 0, hn => step (grid1.coords ⟨0, hn⟩) (X1_0 V c ⟨0, hn⟩) (iblk1 V c 1 ⟨0, hn⟩) (iblk1 V c 2 ⟨0, hn⟩) (X1_3 V c ⟨0, hn⟩) k1_pay1
  | n + 1, hn => step (grid1.coords ⟨n + 1, hn⟩) (X1_0 V c ⟨n + 1, hn⟩) (iblk1 V c 1 ⟨n + 1, hn⟩) (iblk1 V c 2 ⟨n + 1, hn⟩) (X1_3 V c ⟨n + 1, hn⟩)
      (acc1 c n (Nat.lt_of_succ_lt hn))

/-- The first point's contents. -/
theorem acc1_first (c : Dev nD) (t : Fin cfg1.N) (h0 : t.val % 105 = 0) :
    acc1 V c t.val t.isLt = step (grid1.coords t) (X1_0 V c t) (iblk1 V c 1 t) (iblk1 V c 2 t) (X1_3 V c t) k1_pay1 := by
  obtain ⟨n, hn⟩ := t
  cases n with
  | zero => exact rfl
  | succ n => exact absurd h0 (by have : n + 1 < 105 := lt_of_lt_of_eq hn (show cfg1.N = 105 from N_1); dsimp only; omega)

/-- A later point's contents, over what the point before left. -/
theorem acc1_next (c : Dev nD) (t : Fin cfg1.N) (h0 : ¬t.val % 105 = 0) :
    acc1 V c t.val t.isLt = step (grid1.coords t) (X1_0 V c t) (iblk1 V c 1 t) (iblk1 V c 2 t) (X1_3 V c t)
      (acc1 V c (t.val - 1) (Nat.lt_of_le_of_lt (Nat.sub_le _ _) t.isLt)) := by
  obtain ⟨n, hn⟩ := t
  cases n with
  | zero => exact absurd (Nat.zero_mod _) h0
  | succ n => exact rfl

/-- The proof data of pipeline 1. -/
def dat1 (c : Dev nD) : Dat τ (Elt F) Unit ℕ (UR sig nD τ) ℕ cfg1 c where
  A w := V c (Pipeline.arrRef spec1 w)
  after w t := match w with
    | ⟨0, _⟩ => X1_0 V c t
    | ⟨1, _⟩ => iblk1 V c 1 t
    | ⟨2, _⟩ => iblk1 V c 2 t
    | ⟨3, _⟩ => X1_3 V c t
    | ⟨4, _⟩ => (acc1 V c t.val t.isLt)
  Φ _ := Pipeline.ΦA spec1 c
  q w := Pipeline.shareOf spec1 w
  owed _ := 0

/-- The proof data's arrays are the entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = X1_0 V c t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = X1_3 V c t := by dsimp only [dat1]
theorem after1_4 (c : Dev nD) (t : Fin cfg1.N) : (dat1 V c).after 4 t = (acc1 V c t.val t.isLt) := by dsimp only [dat1]

/-- Each input holds its block at every point. -/
theorem before1_0 (c : Dev nD) (t : Fin cfg1.N) (d) : (dat1 V c).before 0 t d = X1_0 V c t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = X1_3 V c t :=
  before1_3_of V (dat1 V c) (A_eq1 V c 3) (after1_3 V c) t d
/-- At a later point the accumulator holds what the point before left. -/
theorem before1_4 (c : Dev nD) (t : Fin cfg1.N) (h0 : ¬t.val % 105 = 0) (d) :
    (dat1 V c).before 4 t d = (acc1 V c (t.val - 1) (Nat.lt_of_le_of_lt (Nat.sub_le _ _) t.isLt)) := by
  have hN : t.val < 105 := lt_of_lt_of_eq t.isLt (show cfg1.N = 105 from N_1)
  rw [Dat.before_out_kept _ 4 rfl t (by omega) (Bool.eq_false_iff.mpr fun h => by have := (flush1_4 _).mp h; dsimp only at this; omega)
    (fun _ => rfl) (fun _ _ => rfl)]
  dsimp only [dat1]

/-- What the body is called with at point `t`. -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d)))

/-- What it returns. -/
def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t)
    ∗ owns (c : Thread nD τ) (ms1_4 t) fullShare ((dat1 V c).after 4 t))

set_option maxHeartbeats 800000 in
/-- The body at any point. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4]
  by_cases h0 : t.val % 105 = 0
  · rw [acc1_first V c t h0]
    iintro ⟨HΦ, Ho, ⟨%d0, H0⟩, ⟨%d1, H1⟩, ⟨%d2, H2⟩, ⟨%d3, H3⟩, ⟨%d4, H4⟩⟩
    iapply (run_first c (grid1.coords t) _ (hs1_0 t) _ (hs1_1 t) _ (hs1_2 t) _ (hs1_3 t) _ (hs1_4 t) ((first_iff t).mpr h0) (X1_0 V c t) (iblk1 V c 1 t) (iblk1 V c 2 t) (X1_3 V c t) Set.univ _)
    isplitl [H0]; · iexact H0
    isplitl [H1]; · iexact H1
    isplitl [H2]; · iexact H2
    isplitl [H3]; · iexact H3
    isplitl [H4]; · iexists _; iexact H4
    iintro ⟨H0, H1, H2, H3, H4⟩
    isplitl [HΦ]; · iexact HΦ
    isplitl [Ho]; · iexact Ho
    isplitl [H0]; · iexact H0
    isplitl [H1]; · iexact H1
    isplitl [H2]; · iexact H2
    isplitl [H3]; · iexact H3
    iexact H4
  · rw [acc1_next V c t h0]
    simp only [before1_4 V c t h0]
    iintro ⟨HΦ, Ho, ⟨%d0, H0⟩, ⟨%d1, H1⟩, ⟨%d2, H2⟩, ⟨%d3, H3⟩, ⟨%d4, H4⟩⟩
    iapply (run_next c (grid1.coords t) _ (hs1_0 t) _ (hs1_1 t) _ (hs1_2 t) _ (hs1_3 t) _ (hs1_4 t) (fun h => h0 ((first_iff t).mp h)) (X1_0 V c t) (iblk1 V c 1 t) (iblk1 V c 2 t) (X1_3 V c t) _ Set.univ _)
    isplitl [H0]; · iexact H0
    isplitl [H1]; · iexact H1
    isplitl [H2]; · iexact H2
    isplitl [H3]; · iexact H3
    isplitl [H4]; · iexact H4
    iintro ⟨H0, H1, H2, H3, H4⟩
    isplitl [HΦ]; · iexact HΦ
    isplitl [Ho]; · iexact Ho
    isplitl [H0]; · iexact H0
    isplitl [H1]; · iexact H1
    isplitl [H2]; · iexact H2
    isplitl [H3]; · iexact H3
    iexact H4

/-- The body table's row is the body. -/
theorem defs₀_row1 (t : Fin cfg1.N) :
    defs₀ (F := F) .tc cfg1.body (cfg1.bodyArgs t (cfg1.slots t)) = bodyAt1 t := by
  unfold defs₀; rw [Defs.onTc_tc]

/-- The body obligation. -/
theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

end Cert.KernelIdeal.Run

end
-- ==== Proof.Run.lean ====
module

public import proofs.«01_k».proof.Proof.Region0
public import proofs.«01_k».proof.Proof.Region1
public import proofs.«01_k».proof.Proof.Gen.KernelIdeal.Launch
public import proofs.«01_k».proof.Proof.Gen.KernelIdeal.Regions
public import proofs.«01_k».proof.Proof.Gen.KernelIdeal.Skeleton
public import proofs.«01_k».proof.Proof.Gen.KernelIdeal.Points
public import Idealize.ShloMosaic.Lib.Pipeline.FrameBody
public import proofs.«01_k».proof.Proof.Gen.KernelIdeal.Loops
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- @main's argument arrays, as TensorCore references. -/
abbrev argRefs : List (Ref sig .tc) := [main_arg0, main_arg1, main_arg2, main_arg3]

/-- No operation of `hostOps1` allocates a buffer. -/
theorem hostOps1_fresh : (hostOps1 : List (HloOp τ sig (Elt F))).Forall fun op => op.fresh = ∅ := by
  simp only [List.Forall]; repeat' constructor
/-- The reference each operation of `hostOps1` writes, in order. -/
abbrev hostOps1_W : List (Ref sig .tc) := [main_v1, main_v2, main_cst, main_v3, main_v4, main_cst_0, main_v5, main_v6, main_v7, main_v8]
theorem hostOps1_writes : (hostOps1 : List (HloOp τ sig (Elt F))).Forall fun op => op.writes ⊆ (hostOps1_W.map (Proc.devRef (τ := τ) .tc)).toFinset :=
  StableHlo.forall_writes_sub_of_map rfl
/-- `hostOps1` writes none of the argument arrays. -/
theorem hostOps1_args : ∀ a ∈ argRefs, a ∉ hostOps1_W := ListAll.forall_mem_of_all_decide (by decide +kernel)

/-- No operation of `hostOps2` allocates a buffer. -/
theorem hostOps2_fresh : (hostOps2 : List (HloOp τ sig (Elt F))).Forall fun op => op.fresh = ∅ := by
  simp only [List.Forall]; repeat' constructor
/-- The reference each operation of `hostOps2` writes, in order. -/
abbrev hostOps2_W : List (Ref sig .tc) := [main_v10, main_cst_1, main_v11]
theorem hostOps2_writes : (hostOps2 : List (HloOp τ sig (Elt F))).Forall fun op => op.writes ⊆ (hostOps2_W.map (Proc.devRef (τ := τ) .tc)).toFinset :=
  StableHlo.forall_writes_sub_of_map rfl
/-- `hostOps2` writes none of the argument arrays. -/
theorem hostOps2_args : ∀ a ∈ argRefs, a ∉ hostOps2_W := ListAll.forall_mem_of_all_decide (by decide +kernel)

/-- Core `c`'s buffers at launch. -/
abbrev W0 : Dev nD → Valuation τ sig (Elt F) := fun c b => (s₀ m ρ).mem ((c : Dev nD), b)
theorem W0_args (c : Dev nD) : ∀ a ∈ argRefs, W0 m ρ c (Proc.devRef .tc a) = m ((c : Thread nD τ).loc a) := fun _ _ => rfl
/-- The same read at the TensorCore's references. -/
abbrev V0 : (c : Dev nD) → (b : Ref sig .tc) → Buf (Elt F) ((c : Thread nD τ).loc b) := fun c b => W0 m ρ c b
/-- At region 0's exit. -/
def W1 (c : Dev nD) : Valuation τ sig (Elt F) :=
  Pipeline.withArrays spec0 c (W0 m ρ c) fun w => (dat0 (V0 m ρ) c).arrAt w cfg0.N
theorem W1_arr (c : Dev nD) (w : Fin cfg0.W) :
    W1 m ρ c (Proc.devRef .tc (Pipeline.arrRef spec0 w)) = (dat0 (V0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
/-- A reference that is none of region 0's OUTPUT arrays keeps its entry contents across it. -/
theorem W1_of (c : Dev nD) (r : Ref sig .tc) (h : ∀ w : Fin cfg0.W, Pipeline.arrRef spec0 w = r → (cfg0.win w).isOut = false) :
    W1 m ρ c (Proc.devRef .tc r) = W0 m ρ c (Proc.devRef .tc r) := by
  by_cases hw : ∃ w : Fin cfg0.W, Pipeline.arrRef spec0 w = r
  · obtain ⟨w, rfl⟩ := hw
    exact (W1_arr m ρ c w).trans (((dat0 (V0 m ρ) c).arrAt_in w (h w rfl) _).trans (A_eq0 (V0 m ρ) c w))
  · exact W1_of_ne m ρ c r fun w e => hw ⟨w, e⟩
/-- Every argument among region 0's arrays is an input window's. -/
theorem argsIn0 : ∀ a ∈ argRefs, ∀ w : Fin cfg0.W, Pipeline.arrRef spec0 w = a → (cfg0.win w).isOut = false :=
  ListAll.forall_mem_of_all_decide (by decide +kernel)
theorem W1_args (c : Dev nD) : ∀ a ∈ argRefs, W1 m ρ c (Proc.devRef .tc a) = m ((c : Thread nD τ).loc a) :=
  fun a ha => (W1_of m ρ c a (argsIn0 a ha)).trans (W0_args m ρ c a ha)
/-- The same read at the TensorCore's references. -/
abbrev V1 : (c : Dev nD) → (b : Ref sig .tc) → Buf (Elt F) ((c : Thread nD τ).loc b) := fun c b => W1 m ρ c b
/-- At region 0's exit each of its arrays holds what the pipeline leaves and every other buffer what it held at entry. -/
theorem hF0 (c : Dev nD) (w : Fin cfg0.W) : (dat0 (V0 m ρ) c).arrAt w cfg0.N = V1 m ρ c (Pipeline.arrRef spec0 w) :=
  (W1_arr m ρ c w).symm
theorem hrest0 (c : Dev nD) : ∀ b, b ∉ Finset.univ.image (Pipeline.arrRef spec0) → V1 m ρ c b = V0 m ρ c b :=
  fun b hb => W1_of_ne m ρ c b fun w e => hb (Finset.mem_image.mpr ⟨w, Finset.mem_univ _, e⟩)

/-- After `hostOps1`. -/
abbrev W2 : Dev nD → Valuation τ sig (Elt F) := fun c => StableHlo.after hostOps1 (W1 m ρ c)
/-- A reference `hostOps1` does not write keeps its contents across it. -/
theorem W2_of (c : Dev nD) (r : Ref sig .tc) (h : r ∉ hostOps1_W) : W2 m ρ c (Proc.devRef .tc r) = W1 m ρ c (Proc.devRef .tc r) :=
  StableHlo.after_of_writes_sub hostOps1 _ hostOps1_writes h
theorem W2_args (c : Dev nD) : ∀ a ∈ argRefs, W2 m ρ c (Proc.devRef .tc a) = m ((c : Thread nD τ).loc a) :=
  fun a ha => (W2_of m ρ c a (hostOps1_args a ha)).trans (W1_args m ρ c a ha)
/-- The same read at the TensorCore's references. -/
abbrev V2 : (c : Dev nD) → (b : Ref sig .tc) → Buf (Elt F) ((c : Thread nD τ).loc b) := fun c b => W2 m ρ c b
/-- At region 1's exit. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact (dat1 (V2 m ρ) c).withArrays_arrAt launch₀1.sharedIn _ (A_eq1 (V2 m ρ) c) w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
/-- A reference that is none of region 1's OUTPUT arrays keeps its entry contents across it. -/
theorem W3_of (c : Dev nD) (r : Ref sig .tc) (h : ∀ w : Fin cfg1.W, Pipeline.arrRef spec1 w = r → (cfg1.win w).isOut = false) :
    W3 m ρ c (Proc.devRef .tc r) = W2 m ρ c (Proc.devRef .tc r) := by
  by_cases hw : ∃ w : Fin cfg1.W, Pipeline.arrRef spec1 w = r
  · obtain ⟨w, rfl⟩ := hw
    exact (W3_arr m ρ c w).trans (((dat1 (V2 m ρ) c).arrAt_in w (h w rfl) _).trans (A_eq1 (V2 m ρ) c w))
  · exact W3_of_ne m ρ c r fun w e => hw ⟨w, e⟩
/-- Every argument among region 1's arrays is an input window's. -/
theorem argsIn1 : ∀ a ∈ argRefs, ∀ w : Fin cfg1.W, Pipeline.arrRef spec1 w = a → (cfg1.win w).isOut = false :=
  ListAll.forall_mem_of_all_decide (by decide +kernel)
theorem W3_args (c : Dev nD) : ∀ a ∈ argRefs, W3 m ρ c (Proc.devRef .tc a) = m ((c : Thread nD τ).loc a) :=
  fun a ha => (W3_of m ρ c a (argsIn1 a ha)).trans (W2_args m ρ c a ha)
/-- The same read at the TensorCore's references. -/
abbrev V3 : (c : Dev nD) → (b : Ref sig .tc) → Buf (Elt F) ((c : Thread nD τ).loc b) := fun c b => W3 m ρ c b
/-- At region 1's exit each of its arrays holds what the pipeline leaves and every other buffer what it held at entry. -/
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-- After `hostOps2`. -/
abbrev W4 : Dev nD → Valuation τ sig (Elt F) := fun c => StableHlo.after hostOps2 (W3 m ρ c)
/-- A reference `hostOps2` does not write keeps its contents across it. -/
theorem W4_of (c : Dev nD) (r : Ref sig .tc) (h : r ∉ hostOps2_W) : W4 m ρ c (Proc.devRef .tc r) = W3 m ρ c (Proc.devRef .tc r) :=
  StableHlo.after_of_writes_sub hostOps2 _ hostOps2_writes h
theorem W4_args (c : Dev nD) : ∀ a ∈ argRefs, W4 m ρ c (Proc.devRef .tc a) = m ((c : Thread nD τ).loc a) :=
  fun a ha => (W4_of m ρ c a (hostOps2_args a ha)).trans (W3_args m ρ c a ha)

theorem W4_main_arg0 (c : Dev nD) : W4 m ρ c (Proc.devRef .tc main_arg0) = m ((c : Thread nD τ).loc main_arg0) :=
  W4_args m ρ c main_arg0 (by decide)
theorem W4_main_arg1 (c : Dev nD) : W4 m ρ c (Proc.devRef .tc main_arg1) = m ((c : Thread nD τ).loc main_arg1) :=
  W4_args m ρ c main_arg1 (by decide)
theorem W4_main_arg2 (c : Dev nD) : W4 m ρ c (Proc.devRef .tc main_arg2) = m ((c : Thread nD τ).loc main_arg2) :=
  W4_args m ρ c main_arg2 (by decide)
theorem W4_main_arg3 (c : Dev nD) : W4 m ρ c (Proc.devRef .tc main_arg3) = m ((c : Thread nD τ).loc main_arg3) :=
  W4_args m ρ c main_arg3 (by decide)

/-- The prefetched tables' admissible contents. -/
abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V0 m ρ) c
  | ⟨1, _⟩ => fun c => dat1 (V2 m ρ) c
abbrev 𝒱₀ : Variants := Variants.none
/-- No core owes another anything. -/
abbrev L : GSem nD τ sig → Finset Unit := fun _ => ∅
abbrev lv : GSem nD τ sig → Unit → ℕ := fun _ _ => 0
/-- What rides beside the buffers through every segment. -/
abbrev R (c : Dev nD) : sProp 𝕄 := iprop((∃ r, prngReg c r) ∗ ∃ W, owes (c : Thread nD τ) (0 : CellTallies nD τ sig Unit) W)
/-- A host stretch as a segment. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W4 m ρ c) ∗ ∃ r, prngReg c r)

-- (unification may unfold plain definitions in the types of the unknowns)
set_option backward.isDefEq.respectTransparency.types false in
/-- REGION 0. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V0 m ρ c) (A_eq0 (V0 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V0 m ρ c) (V1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- (unification may unfold plain definitions in the types of the unknowns)
set_option backward.isDefEq.respectTransparency.types false in
/-- REGION 1. -/
def reg1 : Pipeline.RegionSeg (pcfgs (F := F)) adm (pdats m ρ) () defs₀ 𝒱₀ L lv 1 where
  win := launch₀1.win
  block_pos := launch₀1.block_pos
  stage_whole := launch₀1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs_shared (p := 1) (pcfgs (F := F)) adm (pdats m ρ) launch₀1.win launch₀1.sharedIn launch₀1.arr_whole c
      (fun _ _ => rfl) (V2 m ρ c) (A_eq1 (V2 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays_shared (p := 1) (pcfgs (F := F)) adm (Ix := Unit) (Name := ℕ) (U := UR sig nD τ) (Lvl := ℕ)
      launch₀1.win launch₀1.sharedIn launch₀1.arr_whole c (pdats m ρ) (fun _ _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- @main's 4 segments in order. -/
abbrev segs : List (Pipeline.Seg (pcfgs (F := F)) adm (pdats m ρ) () defs₀ 𝒱₀ L lv) :=
  [ .region (reg0 m ρ),
    .host (hseg hostOps1 hostOps1_sub hostOps1_fresh (W1 m ρ)),
    .region (reg1 m ρ),
    .host (hseg hostOps2 hostOps2_sub hostOps2_fresh (W3 m ρ)) ]
/-- @main IS the run of the segments. -/
theorem main_run (c : Dev nD) : main (F := F) c = Pipeline.Seg.run (segs m ρ) := (main_chain c).trans (by chain_rfl)

/-- The TensorCore has no unscoped semaphore. -/
theorem no_unscoped : ∀ sm : SemLoc sig, sm.isScoped .tc = true := by decide

-- (unification may unfold plain definitions in the types of the unknowns)
set_option backward.isDefEq.respectTransparency.types false in
/-- Every run ends, faultless, with the result at the last contents of the fold, the arguments as launched and every counter at zero. -/
theorem run_main : θ_run defs (onTc (τ := τ) (main (F := F))) ⟨m, fun _ => 0, ρ⟩ (fun r => (∀ c : Dev nD,
      r.2.mem ((c.tc : Thread nD τ).loc main_v11) = W4 m ρ c (Proc.devRef .tc main_v11)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h hz => ⟨(fun c =>
      ⟨h c _ (mem_uc main_v11 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c)⟩), funext fun g => hz g (.inr (no_unscoped g.2))⟩)

end Cert.KernelIdeal.Run

end
-- ==== Proof.Frames.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Run

@[expose] public section

noncomputable section

namespace Cert.Proof

open Idealize.ShloMosaic Idealize.SL.Sem

open Cert.KernelIdeal in
/-- Every run leaves the arguments as launched and every counter at zero, at any reading of the floats. -/
theorem unchanged {F : FTy → Type} [FloatOps F] (m : (ℓ : Loc nD τ sig) → Buf (Elt F) ℓ) (ρ : Dev nD → PrngReg) :
    θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c => (h.1 c).2, h.2⟩) (Cert.KernelIdeal.Run.run_main (F := F) m ρ)

attribute [local instance] Cert.Kernel.Gen.facts Cert.KernelIdeal.Gen.facts Cert.ReferenceIdeal.Gen.facts

/-- The two printed programs' body tables are one. -/
theorem defs₀_eq : Cert.Kernel.defs₀ (F := Bits) = Cert.KernelIdeal.defs₀ (F := Bits) := by
  unfold Cert.Kernel.defs₀ Cert.KernelIdeal.defs₀
  refine congrArg Defs.onTc (funext fun l => ?_)
  match l with
  | ⟨0, _⟩ => rfl
  | ⟨1, _⟩ => rfl

/-- The run at the word instance, read as the printed kernel's frame. -/
theorem frame_kernel : Cert.quiescent_Kernel := fun m ρ _ => by
  unfold Cert.Kernel.defs
  rw [defs₀_eq]
  exact unchanged (F := Bits) m ρ

/-- The same run at the ideal instance. -/
theorem frame_ideal : Cert.quiescent_KernelIdeal := fun m ρ _ => unchanged (F := Ideal) m ρ

/-- The reference's frame: it declares no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

end Cert.Proof

end
-- ==== Proof.Picks.lean ====
module

public import Idealize.ShloMosaic.PureOps
public import Idealize.ShloMosaic.PureOps.Reduce
public import Idealize.ShloMosaic.Lib.Pointwise

@[expose] public section

noncomputable section

namespace Cert.Picks

open Idealize.ShloMosaic

/-! # Taking the nearest out, round by round

A family of extended reals `v` over a finite type of columns, each with its number `code`. The columns are ordered by
value and then by number. `k` rounds, each of which takes out the first column of what is left by putting `⊤` in its
place, take out the first `k` columns of that order. -/

section Order
variable {C : Type} [Fintype C] [DecidableEq C]

/-- Column `c` comes at or before the value `t` at number `j`. -/
def Before (v : C → EReal) (code : C → ℕ) (t : EReal) (j : ℕ) (c : C) : Prop := v c < t ∨ (v c = t ∧ code c ≤ j)

/-- `T` is the first `k` columns, all of finite value. -/
structure Picked (v : C → EReal) (code : C → ℕ) (k : ℕ) (T : Finset C) : Prop where
  card : T.card = k
  fin : ∀ c ∈ T, v c < ⊤
  low : ∀ c ∈ T, ∀ e, e ∉ T → v c < v e ∨ (v c = v e ∧ code c < code e)

/-- `w` is `v` with the columns of `T` taken out. -/
def Left (v : C → EReal) (T : Finset C) (w : C → EReal) : Prop := ∀ c, w c = if c ∈ T then ⊤ else v c

theorem picked_zero (v : C → EReal) (code : C → ℕ) : Picked v code 0 ∅ := ⟨rfl, by simp, by simp⟩
theorem left_zero (v : C → EReal) : Left v ∅ v := fun c => by simp

/-- Some column of finite value is left while fewer are taken than there are. -/
theorem more {v : C → EReal} {code : C → ℕ} {k : ℕ} {T : Finset C} (hT : Picked v code k T) (U : Finset C)
    (hU : ∀ c ∈ U, v c < ⊤) (hk : k < U.card) : ∃ c, c ∉ T ∧ v c < ⊤ := by
  by_contra h
  push Not at h
  have : U ⊆ T := fun c hc => by
    by_contra hcT
    exact absurd (hU c hc) (not_lt.mpr (h c hcT))
  have := Finset.card_le_card this
  rw [hT.card] at this
  omega

/-- One round. -/
theorem step {v : C → EReal} {code : C → ℕ} {k : ℕ} {T : Finset C} {w : C → EReal} (hinj : Function.Injective code)
    (hT : Picked v code k T) (hw : Left v T w) (hmore : ∃ c, c ∉ T ∧ v c < ⊤) {mv : EReal} {c0 : C}
    (hle : ∀ c, mv ≤ w c) (h0 : w c0 = mv) (hmin : ∀ c, w c = mv → code c0 ≤ code c) :
    mv = v c0 ∧ Picked v code (k + 1) (insert c0 T) ∧ Left v (insert c0 T) (fun c => if code c = code c0 then ⊤ else w c) ∧
      ∀ c, c ∈ insert c0 T ↔ Before v code mv (code c0) c := by
  obtain ⟨e, heT, he⟩ := hmore
  have hlt : mv < ⊤ := lt_of_le_of_lt (by have := hle e; rwa [hw e, if_neg heT] at this) he
  have hc0 : c0 ∉ T := fun h => by
    rw [hw c0, if_pos h] at h0
    exact absurd h0 (ne_of_gt hlt)
  have hv0 : mv = v c0 := by rw [← h0, hw c0, if_neg hc0]
  have hout : ∀ c, c ∉ T → mv ≤ v c := fun c hc => by have := hle c; rwa [hw c, if_neg hc] at this
  have hout' : ∀ c, c ∉ T → v c = mv → code c0 ≤ code c := fun c hc h => hmin c (by rw [hw c, if_neg hc, h])
  refine ⟨hv0, ⟨?_, ?_, ?_⟩, ?_, ?_⟩
  · rw [Finset.card_insert_of_notMem hc0, hT.card]
  · intro c hc
    rcases Finset.mem_insert.mp hc with rfl | hc
    · rw [← hv0]; exact hlt
    · exact hT.fin c hc
  · intro c hc e he
    rw [Finset.mem_insert, not_or] at he
    rcases Finset.mem_insert.mp hc with rfl | hc
    · rcases lt_or_eq_of_le (hout e he.2) with h | h
      · exact Or.inl (hv0 ▸ h)
      · refine Or.inr ⟨hv0 ▸ h, lt_of_le_of_ne (hout' e he.2 h.symm) fun h' => he.1 (hinj h').symm⟩
    · exact hT.low c hc e he.2
  · intro c
    show (if code c = code c0 then ⊤ else w c) = _
    by_cases h : c = c0
    · subst h; simp
    · rw [if_neg fun h' => h (hinj h'), hw c]
      simp [Finset.mem_insert, h]
  · intro c
    rw [Finset.mem_insert]
    constructor
    · rintro (rfl | hc)
      · exact Or.inr ⟨hv0.symm, le_rfl⟩
      · rcases hT.low c hc c0 hc0 with h | h
        · exact Or.inl (hv0 ▸ h)
        · exact Or.inr ⟨hv0 ▸ h.1, h.2.le⟩
    · intro h
      by_contra hn
      rw [not_or] at hn
      rcases h with h | h
      · exact absurd (hout c hn.2) (not_le.mpr h)
      · exact hn.1 (hinj (le_antisymm h.2 (hout' c hn.2 h.1)))

/-- There is only one set of the first `k`. -/
theorem Picked.unique {v : C → EReal} {code : C → ℕ} {k : ℕ} {S T : Finset C} (hS : Picked v code k S)
    (hT : Picked v code k T) : S = T := by
  by_contra hne
  have h1 : ¬ S ⊆ T := fun h => hne (Finset.eq_of_subset_of_card_le h (by rw [hS.card, hT.card]))
  have h2 : ¬ T ⊆ S := fun h => hne (Finset.eq_of_subset_of_card_le h (by rw [hS.card, hT.card])).symm
  obtain ⟨a, haS, haT⟩ := Finset.not_subset.mp h1
  obtain ⟨b, hbT, hbS⟩ := Finset.not_subset.mp h2
  rcases hS.low a haS b hbS with h | h <;> rcases hT.low b hbT a haT with h' | h'
  · exact absurd h (not_lt.mpr h'.le)
  · exact absurd h'.1 (ne_of_gt h)
  · exact absurd h.1 (ne_of_gt h')
  · have := h.2; have := h'.2; omega

/-- A set that is all of what comes at or before some place is closed downwards. -/
theorem low_of_before {v : C → EReal} {code : C → ℕ} {T : Finset C} {t : EReal} {j : ℕ}
    (h : ∀ c, c ∈ T ↔ Before v code t j c) : ∀ c ∈ T, ∀ e, e ∉ T → v c < v e ∨ (v c = v e ∧ code c < code e) := by
  intro c hc e he
  have hc := (h c).mp hc
  have he : ¬ Before v code t j e := fun h' => he ((h e).mpr h')
  unfold Before at hc he
  rw [not_or, not_and, not_lt, not_le] at he
  rcases hc with hc | hc
  · exact Or.inl (lt_of_lt_of_le hc he.1)
  · rcases lt_or_eq_of_le he.1 with h' | h'
    · exact Or.inl (hc.1 ▸ h')
    · exact Or.inr ⟨hc.1.trans h', lt_of_le_of_lt hc.2 (he.2 h'.symm)⟩

end Order

/-! ## The least word -/

theorem toInt_minsi (x y : BitVec 32) : (IntOp.minsi x y).toInt = min x.toInt y.toInt := by
  unfold IntOp.minsi
  by_cases h : x.slt y = true
  · rw [if_pos h]
    rw [BitVec.slt_eq_decide, decide_eq_true_eq] at h
    omega
  · rw [if_neg h]
    rw [BitVec.slt_eq_decide, decide_eq_true_eq] at h
    omega

theorem fold_minsi_spec {α : Type} (s : Finset α) (b : BitVec 32) (f : α → BitVec 32) :
    (∀ x ∈ s, (s.fold IntOp.minsi b f).toInt ≤ (f x).toInt) ∧ (s.fold IntOp.minsi b f).toInt ≤ b.toInt ∧
      (s.fold IntOp.minsi b f = b ∨ ∃ x ∈ s, s.fold IntOp.minsi b f = f x) := by
  classical
  induction s using Finset.induction_on with
  | empty => simp
  | insert a s ha ih =>
    rw [Finset.fold_insert ha]
    obtain ⟨h1, h2, h3⟩ := ih
    refine ⟨?_, ?_, ?_⟩
    · intro x hx
      rw [toInt_minsi]
      rcases Finset.mem_insert.mp hx with rfl | hx
      · omega
      · have := h1 x hx; omega
    · rw [toInt_minsi]; omega
    · by_cases h : (f a).slt (s.fold IntOp.minsi b f) = true
      · right
        exact ⟨a, Finset.mem_insert_self _ _, if_pos h⟩
      · have e : IntOp.minsi (f a) (s.fold IntOp.minsi b f) = s.fold IntOp.minsi b f := if_neg h
        rw [e]
        rcases h3 with h3 | ⟨x, hx, h3⟩
        · exact Or.inl h3
        · exact Or.inr ⟨x, Finset.mem_insert_of_mem hx, h3⟩

theorem toInt_ofNat_small {n : ℕ} (h : n < 2 ^ 31) : (BitVec.ofNat 32 n).toInt = n := by
  rw [BitVec.toInt_eq_toNat_cond, BitVec.toNat_ofNat]
  have : n % 2 ^ 32 = n := Nat.mod_eq_of_lt (by omega)
  rw [this, if_pos (by omega)]

/-- The least number among the elements with a property, as the printed reduction finds it. -/
theorem least1 {A : Type} [Fintype A] (p : A → Prop) [DecidablePred p] (code : A → ℕ) (hc : ∀ a, code a < 2 ^ 30)
    (h : ∃ a, p a) : ∃ a0, p a0 ∧ (∀ a, p a → code a0 ≤ code a) ∧
      Finset.univ.fold IntOp.minsi (2147483647#32) (fun a => if p a then BitVec.ofNat 32 (code a) else 1073741824#32)
        = BitVec.ofNat 32 (code a0) := by
  obtain ⟨h1, h2, h3⟩ := fold_minsi_spec Finset.univ (2147483647#32)
    (fun a => if p a then BitVec.ofNat 32 (code a) else 1073741824#32)
  generalize Finset.univ.fold IntOp.minsi (2147483647#32) (fun a => if p a then BitVec.ofNat 32 (code a) else 1073741824#32) = m at h1 h2 h3 ⊢
  obtain ⟨a, ha⟩ := h
  have hm : ∀ a, p a → m.toInt ≤ code a := fun a ha => by
    have := h1 a (Finset.mem_univ _)
    simp only [if_pos ha] at this
    rwa [toInt_ofNat_small (by have := hc a; omega)] at this
  have hma := hm a ha
  have hca := hc a
  rcases h3 with rfl | ⟨x, _, hx⟩
  · simp at hma; omega
  · by_cases hp : p x
    · rw [if_pos hp] at hx
      subst hx
      refine ⟨x, hp, fun a ha => ?_, rfl⟩
      have := hm a ha
      rw [toInt_ofNat_small (by have := hc x; omega)] at this
      exact_mod_cast this
    · rw [if_neg hp] at hx
      subst hx
      simp at hma; omega

/-- The same over two coordinates, one reduction after the other. -/
theorem least2 {A B : Type} [Fintype A] [Fintype B] (p : A → B → Prop) [∀ a b, Decidable (p a b)] (code : A → B → ℕ)
    (hc : ∀ a b, code a b < 2 ^ 30) (h : ∃ a b, p a b) : ∃ a0 b0, p a0 b0 ∧ (∀ a b, p a b → code a0 b0 ≤ code a b) ∧
      Finset.univ.fold IntOp.minsi (2147483647#32) (fun b => Finset.univ.fold IntOp.minsi (2147483647#32)
        (fun a => if p a b then BitVec.ofNat 32 (code a b) else 1073741824#32)) = BitVec.ofNat 32 (code a0 b0) := by
  set f : B → BitVec 32 := fun b => Finset.univ.fold IntOp.minsi (2147483647#32)
        (fun a => if p a b then BitVec.ofNat 32 (code a b) else 1073741824#32) with hf
  have hle : ∀ a b, p a b → (f b).toInt ≤ code a b := fun a b ha => by
    have := (fold_minsi_spec Finset.univ (2147483647#32)
      (fun a => if p a b then BitVec.ofNat 32 (code a b) else 1073741824#32)).1 a (Finset.mem_univ _)
    simp only [if_pos ha] at this
    rwa [toInt_ofNat_small (by have := hc a b; omega)] at this
  have hval : ∀ b, (f b).toInt < 2 ^ 30 → ∃ a, p a b ∧ f b = BitVec.ofNat 32 (code a b) := fun b hb => by
    rcases (fold_minsi_spec Finset.univ (2147483647#32)
      (fun a => if p a b then BitVec.ofNat 32 (code a b) else 1073741824#32)).2.2 with h' | ⟨a, _, h'⟩
    · have e : f b = 2147483647#32 := h'
      rw [e] at hb; simp at hb
    · have e : f b = if p a b then BitVec.ofNat 32 (code a b) else 1073741824#32 := h'
      by_cases hp : p a b
      · rw [if_pos hp] at e; exact ⟨a, hp, e⟩
      · rw [if_neg hp] at e; rw [e] at hb; simp at hb
  obtain ⟨h1, h2, h3⟩ := fold_minsi_spec Finset.univ (2147483647#32) f
  generalize Finset.univ.fold IntOp.minsi (2147483647#32) f = m at h1 h2 h3 ⊢
  obtain ⟨a, b, hab⟩ := h
  have hm : ∀ a b, p a b → m.toInt ≤ code a b := fun a b hp => (h1 b (Finset.mem_univ _)).trans (hle a b hp)
  have hma := hm a b hab
  have hca := hc a b
  rcases h3 with rfl | ⟨y, _, hy⟩
  · simp at hma; omega
  · obtain ⟨x, hx, e⟩ := hval y (by rw [← hy]; omega)
    refine ⟨x, y, hx, fun a b hp => ?_, hy.trans e⟩
    have := hm a b hp
    rw [hy, e, toInt_ofNat_small (by have := hc x y; omega)] at this
    exact_mod_cast this

/-! ## The least value -/

theorem fold_min_spec {α : Type} [Nonempty α] [Fintype α] (f : α → EReal) :
    (∀ x, Finset.univ.fold min ⊤ f ≤ f x) ∧ ∃ x, Finset.univ.fold min ⊤ f = f x := by
  have e : Finset.univ.fold min ⊤ f = Finset.univ.inf f := rfl
  rw [e]
  refine ⟨fun x => Finset.inf_le (Finset.mem_univ x), ?_⟩
  obtain ⟨x, _, hx⟩ := Finset.exists_mem_eq_inf Finset.univ Finset.univ_nonempty f
  exact ⟨x, hx⟩

theorem fold_min2_spec {A B : Type} [Nonempty A] [Fintype A] [Nonempty B] [Fintype B] (f : A → B → EReal) :
    (∀ a b, Finset.univ.fold min ⊤ (fun b => Finset.univ.fold min ⊤ fun a => f a b) ≤ f a b) ∧
      ∃ a b, Finset.univ.fold min ⊤ (fun b => Finset.univ.fold min ⊤ fun a => f a b) = f a b := by
  obtain ⟨h1, y, hy⟩ := fold_min_spec fun b => Finset.univ.fold min ⊤ fun a => f a b
  refine ⟨fun a b => (h1 b).trans ((fold_min_spec fun a => f a b).1 a), ?_⟩
  obtain ⟨x, hx⟩ := (fold_min_spec fun a => f a y).2
  exact ⟨x, y, hy.trans hx⟩

end Cert.Picks

end
-- ==== Proof.Words.lean ====
module

public import Idealize.ShloMosaic.Lib.Pointwise

@[expose] public section

noncomputable section

namespace Cert.Words

open Idealize.ShloMosaic

/-! # The numbers that the constants of the two programs denote -/

theorem zero : Ideal.ofBits .f32 0x00000000#32 = 0 := by simp [Ideal.ofBits, Ideal.ieee]
theorem inf : Ideal.ofBits .f32 0x7F800000#32 = ⊤ := by simp [Ideal.ofBits, Ideal.ieee]
theorem m50 : Ideal.ofBits .f32 0xC2480000#32 = ((-50 : ℝ) : EReal) := by
  simp [Ideal.ofBits, Ideal.ieee, -EReal.coe_mul]; norm_num
theorem p50 : Ideal.ofBits .f32 0x42480000#32 = ((50 : ℝ) : EReal) := by
  simp [Ideal.ofBits, Ideal.ieee, -EReal.coe_mul]; norm_num
theorem m5 : Ideal.ofBits .f32 0xC0A00000#32 = ((-5 : ℝ) : EReal) := by
  simp [Ideal.ofBits, Ideal.ieee, -EReal.coe_mul]; norm_num
theorem two : Ideal.ofBits .f32 0x40000000#32 = ((2 : ℝ) : EReal) := by
  simp [Ideal.ofBits, Ideal.ieee, -EReal.coe_mul]; norm_num
theorem tenk : Ideal.ofBits .f32 0x461C4000#32 = ((10000 : ℝ) : EReal) := by
  simp [Ideal.ofBits, Ideal.ieee, -EReal.coe_mul]; norm_num
theorem far : Ideal.ofBits .f32 0x49742400#32 = ((1000000 : ℝ) : EReal) := by
  simp [Ideal.ofBits, Ideal.ieee, -EReal.coe_mul]; norm_num
theorem hi : Ideal.ofBits .f32 0x48927C00#32 = ((300000 : ℝ) : EReal) := by
  simp [Ideal.ofBits, Ideal.ieee, -EReal.coe_mul]; norm_num
theorem lo : Ideal.ofBits .f32 0xC8927C00#32 = ((-300000 : ℝ) : EReal) := by
  simp [Ideal.ofBits, Ideal.ieee, -EReal.coe_mul]; norm_num
/-- What the norms are kept at least at, as a real number. -/
def eps : ℝ := (Ideal.ofBits .f32 0x2B8CBCCC#32 : EReal).toReal
theorem eps_eq : Ideal.ofBits .f32 0x2B8CBCCC#32 = ((eps : ℝ) : EReal) := by
  unfold eps
  rw [EReal.coe_toReal] <;> simp [Ideal.ofBits, Ideal.ieee, -EReal.coe_mul]
theorem eps_pos : 0 < eps := by
  unfold eps
  simp [Ideal.ofBits, Ideal.ieee, -EReal.coe_mul]

end Cert.Words

end
-- ==== Proof.Select.lean ====
module

public import proofs.«01_k».proof.Proof.Body
public import proofs.«01_k».proof.Proof.Picks
public import proofs.«01_k».proof.Proof.Words
public import Idealize.ShloMosaic.Lib.Pointwise

@[expose] public section

set_option maxRecDepth 16384

noncomputable section

namespace Cert.KernelIdeal.Body

open Cert.KernelIdeal Cert.KernelIdeal.Gen
open Idealize.ShloMosaic Cert.Picks

/-! # The sixteen columns that a row of the loss kernel selects, over the extended reals -/

/-- A column of the table: its member and its lane. -/
abbrev Col := Fin 80 × Fin 128
/-- The column's number. -/
def code (c : Col) : ℕ := c.1.val * 128 + c.2.val
theorem code_lt (c : Col) : code c < 10240 := by unfold code; have := c.1.isLt; have := c.2.isLt; omega
theorem code_inj : Function.Injective code := by
  rintro ⟨a, b⟩ ⟨a', b'⟩ h
  unfold code at h
  simp only at h
  have := b.isLt; have := b'.isLt
  exact Prod.ext (Fin.ext (by simp only; omega)) (Fin.ext (by simp only; omega))

/-- The squared distances of row `r` to the columns, its own at infinity. -/
def val (i : grid1.Coords) (x0 : Vec Ideal S96x8 .f32) (x1 : Vec Ideal S8x80x128 .f32) (r : Fin 96) (c : Col) : EReal :=
  dist i x0 x1 (ix3 r c.1 c.2)

theorem word_code (m : Fin 80) (g : Fin 128) :
    IntOp.addi (IntOp.muli (BitVec.ofNat 32 m.val) 128#32) (BitVec.ofNat 32 g.val) = BitVec.ofNat 32 (code (m, g)) := by
  apply BitVec.eq_of_toNat_eq
  simp [IntOp.addi, IntOp.muli, code]

theorem eq_of_ofNat {a b : ℕ} (ha : a < 2 ^ 32) (hb : b < 2 ^ 32) (h : BitVec.ofNat 32 a = BitVec.ofNat 32 b) : a = b := by
  have := congrArg BitVec.toNat h
  rwa [BitVec.toNat_ofNat, BitVec.toNat_ofNat, Nat.mod_eq_of_lt ha, Nat.mod_eq_of_lt hb] at this

theorem cmpi_eq_ofNat {a b : ℕ} (ha : a < 2 ^ 32) (hb : b < 2 ^ 32) :
    IntOp.cmpi .eq (BitVec.ofNat 32 a) (BitVec.ofNat 32 b) = if a = b then 1#1 else 0#1 := by
  by_cases h : a = b
  · subst h; simp [IntOp.cmpi]
  · rw [if_neg h]
    have : ¬ BitVec.ofNat 32 a = BitVec.ofNat 32 b := fun h' => h (eq_of_ofNat ha hb h')
    simp only [IntOp.cmpi]
    rw [beq_false_of_ne this]
    rfl

theorem cmpi_sle_ofNat {a b : ℕ} (ha : a < 2 ^ 31) (hb : b < 2 ^ 31) :
    IntOp.cmpi .sle (BitVec.ofNat 32 a) (BitVec.ofNat 32 b) = if a ≤ b then 1#1 else 0#1 := by
  simp only [IntOp.cmpi, BitVec.sle_eq_decide, toInt_ofNat_small ha, toInt_ofNat_small hb]
  by_cases h : a ≤ b <;> simp [h]

/-! ## The selection over all columns -/

theorem pay37_row (a : FVec Ideal S96x80x128 .f32) (r : Fin 96) : k1_pay37 a (ix3 r 0 0) =
    Finset.univ.fold min ⊤ (fun g : Fin 128 => Finset.univ.fold min ⊤ fun m : Fin 80 => a (ix3 r m g)) := by
  pointwise [k1_pay37]
  rw [Words.inf]

theorem pay38_row (a : FVec Ideal S96x80x128 .f32) (r : Fin 96) : k1_pay38 k1_pay8 a (ix3 r 0 0) =
    Finset.univ.fold IntOp.minsi (2147483647#32) (fun g : Fin 128 => Finset.univ.fold IntOp.minsi (2147483647#32)
      fun m : Fin 80 => if a (ix3 r m g) = k1_pay37 a (ix3 r 0 0) then BitVec.ofNat 32 (code (m, g)) else 1073741824#32) := by
  pointwise [k1_pay38, k1_pay8]
  simp only [word_code]

theorem pay39_row (a : FVec Ideal S96x80x128 .f32) (r : Fin 96) (m : Fin 80) (g : Fin 128) {j : ℕ} (hj : j < 2 ^ 32)
    (h : k1_pay38 k1_pay8 a (ix3 r 0 0) = BitVec.ofNat 32 j) :
    k1_pay39 k1_pay8 a (ix3 r m g) = if code (m, g) = j then ⊤ else a (ix3 r m g) := by
  generalize hb : k1_pay38 k1_pay8 a = b at h
  unfold k1_pay39
  rw [hb]
  pointwise [k1_pay8]
  rw [h, word_code, cmpi_eq_ofNat (by have := code_lt (m, g); omega) hj, Words.inf]
  by_cases hc : code (m, g) = j <;> simp [hc, Scalar.select]

/-- What is left of row `r` and the last pick, after `k` rounds from `v`. -/
def RowInv (v : Col → EReal) (r : Fin 96) (k : ℕ) (a : FVec Ideal S96x80x128 .f32 × FVec Ideal S96x1x1 .f32 × IVec S96x1x1 32) : Prop :=
  ∃ T : Finset Col, Picked v code k T ∧ Left v T (fun c => a.1 (ix3 r c.1 c.2)) ∧
    (0 < k → ∃ j < 2 ^ 30, a.2.2 (ix3 r 0 0) = BitVec.ofNat 32 j ∧ ∀ c, c ∈ T ↔ Before v code (a.2.1 (ix3 r 0 0)) j c)

theorem slowRound_row {v : Col → EReal} {r : Fin 96} {k : ℕ} {a : FVec Ideal S96x80x128 .f32 × FVec Ideal S96x1x1 .f32 × IVec S96x1x1 32}
    (U : Finset Col) (hU : ∀ c ∈ U, v c < ⊤) (hk : k < U.card) (h : RowInv v r k a) : RowInv v r (k + 1) (slowRound a) := by
  obtain ⟨T, hT, hw, -⟩ := h
  obtain ⟨hle, m1, g1, h1⟩ := fold_min2_spec fun (m : Fin 80) (g : Fin 128) => a.1 (ix3 r m g)
  rw [← pay37_row] at h1
  obtain ⟨m0, g0, h0, hmin, hj⟩ := least2 (fun (m : Fin 80) (g : Fin 128) => a.1 (ix3 r m g) = k1_pay37 a.1 (ix3 r 0 0))
    (fun m g => code (m, g)) (fun m g => by have := code_lt (m, g); omega) ⟨m1, g1, h1.symm⟩
  rw [← pay38_row] at hj
  obtain ⟨e, hT', hw', hb⟩
    := Picks.step (c0 := (m0, g0)) code_inj hT hw (more hT U hU hk)
    (mv := k1_pay37 a.1 (ix3 r 0 0)) (fun c => by rw [pay37_row]; exact hle c.1 c.2) h0 (fun c hc => hmin c.1 c.2 hc)
  refine ⟨_, hT', fun c => ?_, fun _ => ⟨code (m0, g0), by have := code_lt (m0, g0); omega, hj, hb⟩⟩
  rw [← hw' c]
  exact pay39_row a.1 r c.1 c.2 (by have := code_lt (m0, g0); omega) hj

theorem fold_inv {σ : Type} (n : ℕ) (f : σ → σ) (s : σ) (P : ℕ → σ → Prop) (h0 : P 0 s)
    (hs : ∀ k, k < n → ∀ a, P k a → P (k + 1) (f a)) : P n (Scf.fold (n := n) (fun _ a => f a) s) := by
  rw [Scf.fold_eq]
  have key : ∀ (l : List (Fin n)) (k : ℕ) (a : σ), P k a → k + l.length ≤ n → P (k + l.length) (l.foldl (fun a _ => f a) a) := by
    intro l
    induction l with
    | nil => intro k a h _; exact h
    | cons x l ih =>
      intro k a h hn
      rw [List.length_cons] at hn ⊢
      have := ih (k + 1) (f a) (hs k (by omega) a h) (by omega)
      rw [List.foldl_cons, show k + (l.length + 1) = k + 1 + l.length by omega]
      exact this
  have := key (List.finRange n) 0 s h0 (by simp)
  simpa using this

section
variable (i : grid1.Coords) (x0 : Vec Ideal S96x8 .f32) (x1 : Vec Ideal S8x80x128 .f32)

theorem slow_start : k1_pay34 (k1_pay3 (row0 x0)) (k1_pay4 (row1 x0)) (k1_pay5 (row2 x0)) (k1_pay6 i) k1_pay8 (slab0 x1) (slab1 x1) (slab2 x1)
    = dist i x0 x1 := rfl

theorem trips1 : k1_t1_loop.trips = 16 := by decide
theorem trips2 : k1_t2_loop.trips = 16 := by decide

theorem slow_row (r : Fin 96) (U : Finset Col) (hU : ∀ c ∈ U, val i x0 x1 r c < ⊤) (hk : 16 ≤ U.card) :
    RowInv (val i x0 x1 r) r 16 (slow i x0 x1) := by
  have := fold_inv k1_t2_loop.trips (slowRound (F := Ideal))
    (k1_pay34 (k1_pay3 (row0 x0)) (k1_pay4 (row1 x0)) (k1_pay5 (row2 x0)) (k1_pay6 i) k1_pay8 (slab0 x1) (slab1 x1) (slab2 x1),
      k1_pay35 (F := Ideal), k1_pay36) (RowInv (val i x0 x1 r) r)
    ⟨∅, picked_zero _ _, by rw [slow_start]; exact left_zero _, fun h => absurd h (lt_irrefl _)⟩
    (fun k hk' a ha => slowRound_row U hU (by rw [trips2] at hk'; omega) ha)
  rw [trips2] at this
  exact this
end

end Cert.KernelIdeal.Body

end
-- ==== Proof.Group.lean ====
module

public import proofs.«01_k».proof.Proof.Select
public import proofs.«01_k».proof.Proof.Picks
public import proofs.«01_k».proof.Proof.Words
public import Idealize.ShloMosaic.Lib.Pointwise

@[expose] public section

set_option maxRecDepth 16384

noncomputable section

namespace Cert.KernelIdeal.Body

open Cert.KernelIdeal Cert.KernelIdeal.Gen
open Idealize.ShloMosaic Cert.Picks

/-! # The selection per lane group -/

/-- The least of a group's values. -/
def mn (w : Fin 80 → EReal) : EReal := Finset.univ.fold min ⊤ w
/-- The least member at which it occurs, as a word. -/
def mb (w : Fin 80 → EReal) : BitVec 32 :=
  Finset.univ.fold IntOp.minsi (2147483647#32) fun s => if w s = mn w then BitVec.ofNat 32 s.val else 1073741824#32
/-- The group with that member taken out. -/
def nx (w : Fin 80 → EReal) (s : Fin 80) : EReal :=
  Scalar.select (IntOp.cmpi .eq (BitVec.ofNat 32 s.val) (mb w)) ⊤ (w s)
/-- The group after `k` rounds. -/
def grp (v : Fin 80 → EReal) (k : ℕ) : Fin 80 → EReal := nx^[k] v
/-- The member that round `k` takes out. -/
def mem (v : Fin 80 → EReal) (k : ℕ) : Fin 80 := if h : (mb (grp v k)).toNat < 80 then ⟨_, h⟩ else 0

theorem mem_of {v : Fin 80 → EReal} {k : ℕ} {m0 : Fin 80} (hj : mb (grp v k) = BitVec.ofNat 32 m0.val) : mem v k = m0 := by
  have e : (mb (grp v k)).toNat = m0.val := by
    rw [hj, BitVec.toNat_ofNat, Nat.mod_eq_of_lt (by omega)]
  unfold mem
  generalize (mb (grp v k)).toNat = n at e
  subst e
  rw [dif_pos m0.isLt]

theorem grp_rounds (v : Fin 80 → EReal) (U : Finset (Fin 80)) (hU : ∀ s ∈ U, v s < ⊤) (k : ℕ) (hk : k ≤ U.card) :
    Picked v Fin.val k ((Finset.range k).image (mem v)) ∧ Left v ((Finset.range k).image (mem v)) (grp v k) ∧
      ∀ j < k, mn (grp v j) = v (mem v j) ∧ mb (grp v j) = BitVec.ofNat 32 (mem v j).val := by
  induction k with
  | zero => exact ⟨picked_zero _ _, left_zero _, fun j h => absurd h (Nat.not_lt_zero _)⟩
  | succ k ih =>
    obtain ⟨hT, hw, hr⟩ := ih (by omega)
    obtain ⟨hle, m1, h1⟩ := fold_min_spec (grp v k)
    obtain ⟨m0, h0, hmin, hj⟩ := least1 (fun s => grp v k s = mn (grp v k)) Fin.val (fun s => by omega) ⟨m1, h1.symm⟩
    have hj : mb (grp v k) = BitVec.ofNat 32 m0.val := hj
    have em : mem v k = m0 := mem_of hj
    obtain ⟨e, hT', hw', hb⟩ := Picks.step (c0 := m0) Fin.val_injective hT hw (more hT U hU (by omega))
      (mv := mn (grp v k)) hle h0 hmin
    rw [Finset.range_add_one, Finset.image_insert, em]
    refine ⟨hT', fun c => ?_, fun j h => ?_⟩
    · rw [← hw' c]
      have e : grp v (k + 1) = nx (grp v k) := Function.iterate_succ_apply' ..
      rw [e]
      show Scalar.select (IntOp.cmpi .eq (BitVec.ofNat 32 c.val) (mb (grp v k))) ⊤ (grp v k c) = _
      rw [hj, cmpi_eq_ofNat (by omega) (by omega)]
      by_cases hc : c.val = m0.val <;> simp [hc, Scalar.select]
    · rcases Nat.lt_succ_iff_lt_or_eq.mp h with h | rfl
      · exact hr j h
      · rw [em]; exact ⟨e, hj⟩

section
variable (v : FVec Ideal S96x80x128 .f32) (o : IVec S96x80x128 1) (r : Fin 96) (g : Fin 128)

theorem member_row (a : FVec Ideal S96x1x128 .f32) (b : FVec Ideal S96x80x128 .f32) : shapeCast S96x1x128 (multiReductionI .minsi [1] S96x128 (select (cmpf .oeq b (broadcastTo S96x80x128 a broadcasts_S96x1x128_S96x80x128)) (broadcastTo S96x80x128 (shapeCast S1x80x128 members shapeCasts_S1x80x128_S1x80x128) broadcasts_S1x80x128_S96x80x128) (broadcast S96x80x128 1073741824#32) : IVec S96x80x128 32) 2147483647#32 reduces_S96x80x128_S96x128 rfl) shapeCasts_S96x128_S96x1x128 (ix3 r 0 g) = Finset.univ.fold IntOp.minsi (2147483647#32) fun s : Fin 80 => if b (ix3 r s g) = a (ix3 r 0 g) then BitVec.ofNat 32 s.val else 1073741824#32 := by
  pointwise [members]
theorem member_mb (a : FVec Ideal S96x1x128 .f32) (b : FVec Ideal S96x80x128 .f32) (h : a (ix3 r 0 g) = mn (fun s => b (ix3 r s g))) :
    (Finset.univ.fold IntOp.minsi (2147483647#32) fun s : Fin 80 => if b (ix3 r s g) = a (ix3 r 0 g) then BitVec.ofNat 32 s.val else 1073741824#32) = mb (fun s => b (ix3 r s g)) := by
  rw [h]; rfl

theorem pay11_row : k1_pay11 v o (ix3 r 0 g) = mn (fun s => k1_pay10 v o (ix3 r s g)) := by
  pointwise [k1_pay11]
  rw [Words.inf]; rfl
theorem pay12_row : k1_pay12 v members o (ix3 r 0 g) = mb (fun s => k1_pay10 v o (ix3 r s g)) := by
  pointwise [k1_pay12, members]
  simp only [pay11_row]
  rfl
theorem pay13_row (s : Fin 80) : k1_pay13 v members o (ix3 r s g) = nx (fun s => k1_pay10 v o (ix3 r s g)) s := by
  pointwise [k1_pay13]
  rw [pay12_row, Words.inf]
  pointwise [members]
  rfl
theorem pay15_row : k1_pay15 v members o (ix3 r 0 g) = mn (fun s => k1_pay13 v members o (ix3 r s g)) := by
  pointwise [k1_pay15]
  rw [Words.inf]; rfl
theorem pay16_row : k1_pay16 v members o (ix3 r 0 g) = mb (fun s => k1_pay13 v members o (ix3 r s g)) :=
  (member_row r g _ _).trans (member_mb r g _ _ (pay15_row v o r g))
theorem pay17_row (s : Fin 80) : k1_pay17 v members o (ix3 r s g) = nx (fun s => k1_pay13 v members o (ix3 r s g)) s := by
  pointwise [k1_pay17]
  rw [pay16_row, Words.inf]
  generalize hb : (fun s => k1_pay13 v members o (ix3 r s g)) = b
  rw [congrFun hb s]
  pointwise [members]
  rfl
theorem pay19_row : k1_pay19 v members o (ix3 r 0 g) = mn (fun s => k1_pay17 v members o (ix3 r s g)) := by
  pointwise [k1_pay19]
  rw [Words.inf]; rfl
theorem pay22_row : k1_pay22 (k1_pay20 v members o) 1073741824#32 (k1_pay21 members) (ix3 r 0 g) = mb (fun s => k1_pay17 v members o (ix3 r s g)) :=
  (member_row r g _ _).trans (member_mb r g _ _ (pay19_row v o r g))
theorem pay23_row (s : Fin 80) : k1_pay23 members (k1_pay17 v members o) (k1_pay20 v members o) 1073741824#32 (k1_pay21 members) (ix3 r s g)
    = nx (fun s => k1_pay17 v members o (ix3 r s g)) s := by
  pointwise [k1_pay23]
  rw [pay22_row, Words.inf]
  generalize hb : (fun s => k1_pay17 v members o (ix3 r s g)) = b
  rw [congrFun hb s]
  pointwise [members]
  rfl
theorem pay24_row : k1_pay24 members (k1_pay17 v members o) (k1_pay20 v members o) 1073741824#32 (k1_pay21 members) (ix3 r 0 g)
    = mn (nx (fun s => k1_pay17 v members o (ix3 r s g))) := by
  have : mn (nx (fun s => k1_pay17 v members o (ix3 r s g))) = mn (fun s => k1_pay23 members (k1_pay17 v members o) (k1_pay20 v members o) 1073741824#32 (k1_pay21 members) (ix3 r s g)) :=
    congrArg mn (funext fun s => (pay23_row v o r g s).symm)
  rw [this]
  pointwise [k1_pay24]
  rw [Words.inf]; rfl
end

end Cert.KernelIdeal.Body

end
-- ==== Proof.Merge.lean ====
module

public import proofs.«01_k».proof.Proof.Group
public import proofs.«01_k».proof.Proof.Picks
public import proofs.«01_k».proof.Proof.Words
public import Idealize.ShloMosaic.Lib.Pointwise

@[expose] public section

set_option maxRecDepth 16384

noncomputable section

namespace Cert.KernelIdeal.Body

open Cert.KernelIdeal Cert.KernelIdeal.Gen
open Idealize.ShloMosaic Cert.Picks

/-! # The candidates, their merge, and the choice between the two selections -/

theorem grp_zero (v : Fin 80 → EReal) : grp v 0 = v := by unfold grp; exact Function.iterate_zero_apply _ _
theorem grp_succ (v : Fin 80 → EReal) (k : ℕ) : grp v (k + 1) = nx (grp v k) := by
  unfold grp; exact Function.iterate_succ_apply' _ _ _

section
variable (v : FVec Ideal S96x80x128 .f32) (o : IVec S96x80x128 1) (r : Fin 96) (g : Fin 128)

/-- One lane group of one row. -/
def lane0 (s : Fin 80) : EReal := k1_pay10 v o (ix3 r s g)

theorem lane_1 : (fun s => k1_pay13 v members o (ix3 r s g)) = grp (lane0 v o r g) 1 := by
  rw [grp_succ, grp_zero]
  exact funext fun s => pay13_row v o r g s
theorem lane_2 : (fun s => k1_pay17 v members o (ix3 r s g)) = grp (lane0 v o r g) 2 := by
  rw [grp_succ, ← lane_1]
  exact funext fun s => pay17_row v o r g s
theorem lane_3 : (fun s => k1_pay23 members (k1_pay17 v members o) (k1_pay20 v members o) 1073741824#32 (k1_pay21 members) (ix3 r s g))
    = grp (lane0 v o r g) 3 := by
  rw [grp_succ, ← lane_2]
  exact funext fun s => pay23_row v o r g s

theorem min_0 : k1_pay11 v o (ix3 r 0 g) = mn (grp (lane0 v o r g) 0) := by
  rw [grp_zero]; exact pay11_row v o r g
theorem min_1 : k1_pay15 v members o (ix3 r 0 g) = mn (grp (lane0 v o r g) 1) := by
  rw [← lane_1]; exact pay15_row v o r g
theorem min_2 : k1_pay19 v members o (ix3 r 0 g) = mn (grp (lane0 v o r g) 2) := by
  rw [← lane_2]; exact pay19_row v o r g
theorem min_3 : k1_pay24 members (k1_pay17 v members o) (k1_pay20 v members o) 1073741824#32 (k1_pay21 members) (ix3 r 0 g)
    = mn (grp (lane0 v o r g) 3) := by
  rw [grp_succ, ← lane_2]; exact pay24_row v o r g

/-- The word of the column that a member of the group is. -/
def colWord (b : BitVec 32) : BitVec 32 := IntOp.addi (IntOp.muli b 128#32) (BitVec.ofNat 32 g.val)

theorem addr_row (b : IVec S96x1x128 32) : addi (muli b (broadcast S96x1x128 128#32)) (broadcastTo S96x1x128 (extractStridedSlice S1x1x128 ![0, 0, 0] lanes slices_S1x80x128_o0_0_0_S1x1x128 : IVec S1x1x128 32) broadcasts_S1x1x128_S96x1x128) (ix3 r 0 g) = colWord g (b (ix3 r 0 g)) := by
  pointwise [lanes]
  rfl

theorem addr_0 : k1_pay14 v lanes members o (ix3 r 0 g) = colWord g (mb (grp (lane0 v o r g) 0)) := by
  rw [grp_zero]
  exact (addr_row r g _).trans (congrArg (colWord g) (pay12_row v o r g))
theorem addr_1 : k1_pay18 v lanes members o (ix3 r 0 g) = colWord g (mb (grp (lane0 v o r g) 1)) := by
  rw [← lane_1]
  exact (addr_row r g _).trans (congrArg (colWord g) (pay16_row v o r g))
theorem addr_2 : addi (muli (k1_pay22 (k1_pay20 v members o) 1073741824#32 (k1_pay21 members)) (broadcast S96x1x128 128#32)) (broadcastTo S96x1x128 (extractStridedSlice S1x1x128 ![0, 0, 0] lanes slices_S1x80x128_o0_0_0_S1x1x128 : IVec S1x1x128 32) broadcasts_S1x1x128_S96x1x128) (ix3 r 0 g)
    = colWord g (mb (grp (lane0 v o r g) 2)) := by
  rw [← lane_2]
  exact (addr_row r g _).trans (congrArg (colWord g) (pay22_row v o r g))
/-- The fourth candidates' members. -/
def mem3 (p17 : FVec Ideal S96x80x128 .f32) (p20 : IVec S96x80x128 1) : IVec S96x1x128 32 :=
  shapeCast S96x1x128 (multiReductionI .minsi [1] S96x128 (select (cmpf .oeq (k1_pay23 members p17 p20 1073741824#32 (k1_pay21 members)) (broadcastTo S96x80x128 (k1_pay24 members p17 p20 1073741824#32 (k1_pay21 members)) broadcasts_S96x1x128_S96x80x128)) (broadcastTo S96x80x128 (shapeCast S1x80x128 members shapeCasts_S1x80x128_S1x80x128) broadcasts_S1x80x128_S96x80x128) (broadcast S96x80x128 1073741824#32) : IVec S96x80x128 32) 2147483647#32 reduces_S96x80x128_S96x128 rfl) shapeCasts_S96x128_S96x1x128
theorem addr_3 : addi (muli (mem3 (k1_pay17 v members o) (k1_pay20 v members o)) (broadcast S96x1x128 128#32)) (broadcastTo S96x1x128 (extractStridedSlice S1x1x128 ![0, 0, 0] lanes slices_S1x80x128_o0_0_0_S1x1x128 : IVec S1x1x128 32) broadcasts_S1x1x128_S96x1x128) (ix3 r 0 g)
    = colWord g (mb (grp (lane0 v o r g) 3)) := by
  rw [← lane_3]
  refine (addr_row r g _).trans (congrArg (colWord g) ?_)
  refine (member_row r g _ _).trans (member_mb r g _ _ ?_)
  rw [min_3, ← lane_3]
end

theorem cat_row {t : EltTy} (a0 a1 a2 a3 : Vec Ideal S96x1x128 t) (r : Fin 96) (s : Fin 4) (g : Fin 128) (f : ℕ → Elt Ideal t)
    (h0 : a0 (ix3 r 0 g) = f 0) (h1 : a1 (ix3 r 0 g) = f 1) (h2 : a2 (ix3 r 0 g) = f 2) (h3 : a3 (ix3 r 0 g) = f 3) :
    concatenate S96x4x128 1 [⟨S96x1x128, a0⟩, ⟨S96x1x128, a1⟩, ⟨S96x1x128, a2⟩, ⟨S96x1x128, a3⟩] concatenates_S96x1x128_S96x1x128_S96x1x128_S96x1x128_S96x4x128_d1 (ix3 r s g)
      = f s.val := by
  rcases s with ⟨s, hs⟩
  pointwise []
  interval_cases s
  exacts [h0, h1, h2, h3]

section
variable (a : FVec Ideal S96x4x128 .f32) (b : IVec S96x4x128 32) (p : FVec Ideal S96x1x1 .f32) (q : IVec S96x1x1 32) (r : Fin 96)

theorem pay29_row : k1_pay29 a (ix3 r 0 0) =
    Finset.univ.fold min ⊤ (fun g : Fin 128 => Finset.univ.fold min ⊤ fun s : Fin 4 => a (ix3 r s g)) := by
  pointwise [k1_pay29]
  rw [Words.inf]

theorem pick_row : shapeCast S96x1x1 (multiReductionI .minsi [2] S96x1 (shapeCast S96x1x128 (multiReductionI .minsi [1] S96x128
      (select (cmpf .oeq a (broadcastTo S96x4x128 p broadcasts_S96x1x1_S96x4x128)) b (broadcast S96x4x128 1073741824#32) : IVec S96x4x128 32) 2147483647#32
      reduces_S96x4x128_S96x128 rfl) shapeCasts_S96x128_S96x1x128) 2147483647#32 reduces_S96x1x128_S96x1 rfl) shapeCasts_S96x1_S96x1x1 (ix3 r 0 0) =
    Finset.univ.fold IntOp.minsi (2147483647#32) (fun g : Fin 128 => Finset.univ.fold IntOp.minsi (2147483647#32)
      fun s : Fin 4 => if a (ix3 r s g) = p (ix3 r 0 0) then b (ix3 r s g) else 1073741824#32) := by
  pointwise []

theorem drop_row (s : Fin 4) (g : Fin 128) : select (cmpi .eq b (broadcastTo S96x4x128 q broadcasts_S96x1x1_S96x4x128))
      (broadcast S96x4x128 (Scalar.ofBits .f32 0x7F800000#32)) a (ix3 r s g) =
    Scalar.select (IntOp.cmpi .eq (b (ix3 r s g)) (q (ix3 r 0 0))) ⊤ (a (ix3 r s g)) := by
  pointwise []
  rw [Words.inf]
end

section
variable (i : grid1.Coords) (x0 : Vec Ideal S96x8 .f32) (x1 : Vec Ideal S8x80x128 .f32) (r : Fin 96)

attribute [local irreducible] mem

/-- The row's distances in one lane group. -/
def lane (g : Fin 128) : Fin 80 → EReal := lane0 (d2 x0 x1) (k1_pay9 i) r g
theorem lane_val (g : Fin 128) (s : Fin 80) : lane i x0 x1 r g s = val i x0 x1 r (s, g) := rfl
/-- The column of the group's candidate `s`. -/
def cmem (c : Fin 4 × Fin 128) : Col := (mem (lane i x0 x1 r c.2) c.1.val, c.2)

theorem cand_row (s : Fin 4) (g : Fin 128) : cand i x0 x1 (ix3 r s g) = mn (grp (lane i x0 x1 r g) s.val) :=
  cat_row (t := .f32) _ _ _ _ r s g (fun k => mn (grp (lane i x0 x1 r g) k)) (min_0 _ _ _ _) (min_1 _ _ _ _) (min_2 _ _ _ _) (min_3 _ _ _ _)
theorem candCol_row (s : Fin 4) (g : Fin 128) : candCol i x0 x1 (ix3 r s g) = colWord g (mb (grp (lane i x0 x1 r g) s.val)) :=
  cat_row (t := .i32) _ _ _ _ r s g (fun k => colWord g (mb (grp (lane i x0 x1 r g) k))) (addr_0 _ _ _ _) (addr_1 _ _ _ _) (addr_2 _ _ _ _) (addr_3 _ _ _ _)

/-- Every lane group of the row has four columns of finite distance. -/
def Enough : Prop := ∀ g, ∃ U : Finset (Fin 80), (∀ s ∈ U, lane i x0 x1 r g s < ⊤) ∧ 4 ≤ U.card

variable {i x0 x1 r}

theorem cand_val (h : Enough i x0 x1 r) (c : Fin 4 × Fin 128) : cand i x0 x1 (ix3 r c.1 c.2) = val i x0 x1 r (cmem i x0 x1 r c) := by
  obtain ⟨U, hU, hk⟩ := h c.2
  rw [cand_row, ((grp_rounds _ U hU 4 hk).2.2 c.1.val c.1.isLt).1]
  rfl
theorem candCol_val (h : Enough i x0 x1 r) (c : Fin 4 × Fin 128) : candCol i x0 x1 (ix3 r c.1 c.2) = BitVec.ofNat 32 (code (cmem i x0 x1 r c)) := by
  obtain ⟨U, hU, hk⟩ := h c.2
  rw [candCol_row, ((grp_rounds _ U hU 4 hk).2.2 c.1.val c.1.isLt).2]
  exact word_code _ _
theorem cand_picked (h : Enough i x0 x1 r) (g : Fin 128) :
    Picked (lane i x0 x1 r g) Fin.val 4 ((Finset.range 4).image (mem (lane i x0 x1 r g))) := by
  obtain ⟨U, hU, hk⟩ := h g
  exact (grp_rounds _ U hU 4 hk).1
theorem cand_fin (h : Enough i x0 x1 r) (c : Fin 4 × Fin 128) : cand i x0 x1 (ix3 r c.1 c.2) < ⊤ := by
  rw [cand_val h]
  exact (cand_picked h c.2).fin _ (Finset.mem_image_of_mem _ (Finset.mem_range.mpr c.1.isLt))
theorem cmem_inj (h : Enough i x0 x1 r) : Function.Injective (cmem i x0 x1 r) := by
  rintro ⟨s, g⟩ ⟨s', g'⟩ e
  have e2 : g = g' := congrArg Prod.snd e
  subst e2
  have e1 : mem (lane i x0 x1 r g) s.val = mem (lane i x0 x1 r g) s'.val := congrArg Prod.fst e
  have hc := (cand_picked h g).card
  have hi := Finset.card_image_iff.mp (hc.trans (Finset.card_range 4).symm)
  have := hi (Finset.mem_coe.mpr (Finset.mem_range.mpr s.isLt)) (Finset.mem_coe.mpr (Finset.mem_range.mpr s'.isLt)) e1
  rw [Fin.ext this]

/-- What is left of the row's candidates and the last pick, after `k` rounds of the merge. -/
def MergeInv (i : grid1.Coords) (x0 : Vec Ideal S96x8 .f32) (x1 : Vec Ideal S8x80x128 .f32) (r : Fin 96) (k : ℕ)
    (a : FVec Ideal S96x4x128 .f32 × FVec Ideal S96x1x1 .f32 × IVec S96x1x1 32) : Prop :=
  ∃ T : Finset (Fin 4 × Fin 128), Picked (fun c => cand i x0 x1 (ix3 r c.1 c.2)) (fun c => code (cmem i x0 x1 r c)) k T ∧
    Left (fun c => cand i x0 x1 (ix3 r c.1 c.2)) T (fun c => a.1 (ix3 r c.1 c.2)) ∧
    (0 < k → ∃ j < 2 ^ 30, a.2.2 (ix3 r 0 0) = BitVec.ofNat 32 j ∧
      ∀ c, c ∈ T ↔ Before (fun c => cand i x0 x1 (ix3 r c.1 c.2)) (fun c => code (cmem i x0 x1 r c)) (a.2.1 (ix3 r 0 0)) j c)

theorem merge_snd (a : FVec Ideal S96x4x128 .f32 × FVec Ideal S96x1x1 .f32 × IVec S96x1x1 32) :
    (mergeRound i x0 x1 a).2.2 (ix3 r 0 0) = Finset.univ.fold IntOp.minsi (2147483647#32) (fun g : Fin 128 => Finset.univ.fold IntOp.minsi (2147483647#32)
      fun s : Fin 4 => if a.1 (ix3 r s g) = k1_pay29 a.1 (ix3 r 0 0) then candCol i x0 x1 (ix3 r s g) else 1073741824#32) :=
  pick_row a.1 (candCol i x0 x1) (k1_pay29 a.1) r
theorem merge_fst (a : FVec Ideal S96x4x128 .f32 × FVec Ideal S96x1x1 .f32 × IVec S96x1x1 32) (s : Fin 4) (g : Fin 128) :
    (mergeRound i x0 x1 a).1 (ix3 r s g) = Scalar.select (IntOp.cmpi .eq (candCol i x0 x1 (ix3 r s g)) ((mergeRound i x0 x1 a).2.2 (ix3 r 0 0))) ⊤ (a.1 (ix3 r s g)) :=
  drop_row a.1 (candCol i x0 x1) (mergeRound i x0 x1 a).2.2 r s g

theorem mergeRound_row {k : ℕ} {a : FVec Ideal S96x4x128 .f32 × FVec Ideal S96x1x1 .f32 × IVec S96x1x1 32}
    (h : Enough i x0 x1 r) (hk : k < 16) (hi : MergeInv i x0 x1 r k a) : MergeInv i x0 x1 r (k + 1) (mergeRound i x0 x1 a) := by
  obtain ⟨T, hT, hw, -⟩ := hi
  obtain ⟨hle, m1, g1, h1⟩ := fold_min2_spec fun (s : Fin 4) (g : Fin 128) => a.1 (ix3 r s g)
  rw [← pay29_row] at h1
  obtain ⟨m0, g0, h0, hmin, hj⟩ := least2 (fun (s : Fin 4) (g : Fin 128) => a.1 (ix3 r s g) = k1_pay29 a.1 (ix3 r 0 0))
    (fun s g => code (cmem i x0 x1 r (s, g))) (fun s g => by have := code_lt (cmem i x0 x1 r (s, g)); omega) ⟨m1, g1, h1.symm⟩
  have hj' : (mergeRound i x0 x1 a).2.2 (ix3 r 0 0) = BitVec.ofNat 32 (code (cmem i x0 x1 r (m0, g0))) := by
    rw [merge_snd, ← hj]
    simp only [fun s g => candCol_val h (s, g)]
  obtain ⟨e, hT', hw', hb⟩ := Picks.step (c0 := (m0, g0)) (code_inj.comp (cmem_inj h)) hT hw
    (more hT Finset.univ (fun c _ => cand_fin h c) (by simp; omega))
    (mv := k1_pay29 a.1 (ix3 r 0 0)) (fun c => by rw [pay29_row]; exact hle c.1 c.2) h0 (fun c hc => hmin c.1 c.2 hc)
  refine ⟨_, hT', fun c => ?_, fun _ => ⟨_, by have := code_lt (cmem i x0 x1 r (m0, g0)); omega, hj', hb⟩⟩
  rw [← hw' c]
  show (mergeRound i x0 x1 a).1 (ix3 r c.1 c.2) = _
  rw [merge_fst, hj', candCol_val h c, cmpi_eq_ofNat (by have := code_lt (cmem i x0 x1 r c); omega) (by have := code_lt (cmem i x0 x1 r (m0, g0)); omega)]
  by_cases hc : code (cmem i x0 x1 r c) = code (cmem i x0 x1 r (m0, g0)) <;> simp [hc, Scalar.select]

theorem fast_row (h : Enough i x0 x1 r) : MergeInv i x0 x1 r 16 (fast i x0 x1) := by
  have := fold_inv k1_t1_loop.trips (mergeRound i x0 x1) (cand i x0 x1, k1_pay27 (F := Ideal), k1_pay28) (MergeInv i x0 x1 r)
    ⟨∅, picked_zero _ _, left_zero _, fun h => absurd h (lt_irrefl _)⟩
    (fun k hk' a ha => mergeRound_row h (by rw [trips1] at hk'; omega) ha)
  rw [trips1] at this
  exact this
end

end Cert.KernelIdeal.Body

end
-- ==== Proof.Choice.lean ====
module

public import proofs.«01_k».proof.Proof.Merge
public import proofs.«01_k».proof.Proof.Picks
public import proofs.«01_k».proof.Proof.Words
public import Idealize.ShloMosaic.Lib.Pointwise

@[expose] public section

set_option maxRecDepth 16384

noncomputable section

namespace Cert.KernelIdeal.Body

open Cert.KernelIdeal Cert.KernelIdeal.Gen
open Idealize.ShloMosaic Cert.Picks

/-! # Which columns a row selects -/

theorem toInt_maxsi (x y : BitVec 32) : (IntOp.maxsi x y).toInt = max x.toInt y.toInt := by
  unfold IntOp.maxsi
  by_cases h : x.slt y = true <;> by_cases h' : y.slt x = true <;> simp only [h, h', if_true, if_false, Bool.false_eq_true] <;>
    rw [BitVec.slt_eq_decide, decide_eq_true_eq] at h h' <;> omega

theorem le_fold_maxsi {α : Type} (s : Finset α) (b : BitVec 32) (f : α → BitVec 32) {x : α} (hx : x ∈ s) :
    (f x).toInt ≤ (s.fold IntOp.maxsi b f).toInt := by
  classical
  induction s using Finset.induction_on with
  | empty => simp at hx
  | insert a s ha ih =>
    rw [Finset.fold_insert ha, toInt_maxsi]
    rcases Finset.mem_insert.mp hx with rfl | hx
    · omega
    · have := ih hx; omega

section
variable (a : FVec Ideal S96x4x128 .f32) (b : IVec S96x4x128 32) (p : FVec Ideal S96x1x1 .f32) (q : IVec S96x1x1 32) (r : Fin 96)

theorem count_row (g : Fin 128) : multiReductionI .add [1] S96x128 (extui 32 (ori (cmpf .olt a (broadcastTo S96x4x128 p broadcasts_S96x1x1_S96x4x128))
      (andi (cmpf .oeq a (broadcastTo S96x4x128 p broadcasts_S96x1x1_S96x4x128)) (cmpi .sle b (broadcastTo S96x4x128 q broadcasts_S96x1x1_S96x4x128)))) natLt_1_32 : IVec S96x4x128 32)
      0#32 reduces_S96x4x128_S96x128 rfl (ix2 r g) =
    Finset.univ.fold IntOp.addi 0#32 (fun s : Fin 4 => (IntOp.ori (BitVec.ofBool (decide (a (ix3 r s g) < p (ix3 r 0 0))))
      (IntOp.andi (BitVec.ofBool (decide (a (ix3 r s g) = p (ix3 r 0 0)))) (IntOp.cmpi .sle (b (ix3 r s g)) (q (ix3 r 0 0))))).setWidth 32) := by
  pointwise []
end

/-- The bit that a place is at or before a threshold. -/
theorem before_bit {v t : EReal} {c j : ℕ} (hc : c < 2 ^ 31) (hj : j < 2 ^ 31) :
    IntOp.ori (BitVec.ofBool (decide (v < t))) (IntOp.andi (BitVec.ofBool (decide (v = t))) (IntOp.cmpi .sle (BitVec.ofNat 32 c) (BitVec.ofNat 32 j)))
      = BitVec.ofBool (decide (v < t ∨ (v = t ∧ c ≤ j))) := by
  rw [cmpi_sle_ofNat hc hj]
  by_cases h1 : v < t <;> by_cases h2 : v = t <;> by_cases h3 : c ≤ j <;> simp [h1, h2, h3, IntOp.ori, IntOp.andi]

attribute [local irreducible] mem

section
variable {i : grid1.Coords} {x0 : Vec Ideal S96x8 .f32} {x1 : Vec Ideal S8x80x128 .f32} {r : Fin 96}

theorem cnt_row (g : Fin 128) : cnt i x0 x1 (ix2 r g) =
    Finset.univ.fold IntOp.addi 0#32 (fun s : Fin 4 => (IntOp.ori (BitVec.ofBool (decide (cand i x0 x1 (ix3 r s g) < (fast i x0 x1).2.1 (ix3 r 0 0))))
      (IntOp.andi (BitVec.ofBool (decide (cand i x0 x1 (ix3 r s g) = (fast i x0 x1).2.1 (ix3 r 0 0)))) (IntOp.cmpi .sle (candCol i x0 x1 (ix3 r s g)) ((fast i x0 x1).2.2 (ix3 r 0 0))))).setWidth 32) :=
  count_row (cand i x0 x1) (candCol i x0 x1) (fast i x0 x1).2.1 (fast i x0 x1).2.2 r g

theorem pay33_le (c : IVec S96x128 32) (r : Fin 96) (g : Fin 128) : (c (ix2 r g)).toInt ≤ (k1_pay33 c (ix3 0 0 0)).toInt := by
  pointwise [k1_pay33]
  first
    | exact (le_fold_maxsi Finset.univ _ (fun g => c (ix2 r g)) (Finset.mem_univ g)).trans
        (le_fold_maxsi Finset.univ _ (fun r => Finset.univ.fold IntOp.maxsi _ fun g => c (ix2 r g)) (Finset.mem_univ r))
    | exact (le_fold_maxsi Finset.univ _ (fun r => c (ix2 r g)) (Finset.mem_univ r)).trans
        (le_fold_maxsi Finset.univ _ (fun g => Finset.univ.fold IntOp.maxsi _ fun r => c (ix2 r g)) (Finset.mem_univ g))

theorem bad_of (h : 4 ≤ (k1_pay33 (cnt i x0 x1) (ix3 0 0 0)).toInt) : bad i x0 x1 = 1#1 := by
  have e : extractAt ![0, 0, 0] (k1_pay33 (cnt i x0 x1)) inpos_S1x1x1_p0_0_0 = k1_pay33 (cnt i x0 x1) (ix3 0 0 0) := by
    unfold extractAt
    congr 1
    funext a
    fin_cases a <;> rfl
  unfold bad
  rw [e]
  have : Scalar.cmpi .sge (k1_pay33 (cnt i x0 x1) (ix3 0 0 0)) 4#32 = 1#1 := by
    generalize k1_pay33 (cnt i x0 x1) (ix3 0 0 0) = w at h
    show BitVec.ofBool ((4#32).sle w) = 1#1
    have : (4#32).sle w = true := by
      rw [BitVec.sle_eq_decide, decide_eq_true_eq]
      exact h
    rw [this]; rfl
  rw [this]
  decide

theorem pay40_row (d : FVec Ideal S96x80x128 .f32) (p : FVec Ideal S96x1x1 .f32) (q : IVec S96x1x1 32) (r : Fin 96) (m : Fin 80) (g : Fin 128) :
    k1_pay40 k1_pay8 d p q (ix3 r m g) = IntOp.ori (BitVec.ofBool (decide (d (ix3 r m g) < p (ix3 r 0 0))))
      (IntOp.andi (BitVec.ofBool (decide (d (ix3 r m g) = p (ix3 r 0 0)))) (IntOp.cmpi .sle (IntOp.addi (IntOp.muli (BitVec.ofNat 32 m.val) 128#32) (BitVec.ofNat 32 g.val)) (q (ix3 r 0 0)))) := by
  pointwise [k1_pay40, k1_pay8]

theorem sel_row (m : Fin 80) (g : Fin 128) {j : ℕ} (hj : j < 2 ^ 30) (h : (thr i x0 x1).2 (ix3 r 0 0) = BitVec.ofNat 32 j) :
    sel i x0 x1 (ix3 r m g) = 1#1 ↔ Before (val i x0 x1 r) code ((thr i x0 x1).1 (ix3 r 0 0)) j (m, g) := by
  have e : sel i x0 x1 (ix3 r m g) = IntOp.ori (BitVec.ofBool (decide (dist i x0 x1 (ix3 r m g) < (thr i x0 x1).1 (ix3 r 0 0))))
      (IntOp.andi (BitVec.ofBool (decide (dist i x0 x1 (ix3 r m g) = (thr i x0 x1).1 (ix3 r 0 0)))) (IntOp.cmpi .sle (BitVec.ofNat 32 (code (m, g))) ((thr i x0 x1).2 (ix3 r 0 0)))) := by
    rw [← word_code]
    exact pay40_row _ _ _ _ _ _
  rw [e, h, before_bit (by have := code_lt (m, g); omega) (by omega)]
  unfold Before val
  by_cases hh : dist i x0 x1 (ix3 r m g) < (thr i x0 x1).1 (ix3 r 0 0) ∨ (dist i x0 x1 (ix3 r m g) = (thr i x0 x1).1 (ix3 r 0 0) ∧ code (m, g) ≤ j)
  · rw [decide_eq_true hh]; exact iff_of_true rfl hh
  · rw [decide_eq_false hh]; exact iff_of_false (by decide) hh

theorem merged (h : Enough i x0 x1 r) (hb : ¬ bad i x0 x1 = 1#1) : ∃ S : Finset Col, Picked (val i x0 x1 r) code 16 S ∧
    ∃ j < 2 ^ 30, (fast i x0 x1).2.2 (ix3 r 0 0) = BitVec.ofNat 32 j ∧
      ∀ c, c ∈ S ↔ Before (val i x0 x1 r) code ((fast i x0 x1).2.1 (ix3 r 0 0)) j c := by
  obtain ⟨T, hT, -, hlast⟩ := fast_row h
  obtain ⟨j, hj, ej, hmem⟩ := hlast (by omega)
  have hin : ∀ c, c ∈ T.image (cmem i x0 x1 r) ↔ Before (val i x0 x1 r) code ((fast i x0 x1).2.1 (ix3 r 0 0)) j c := by
    have key : ∀ c, c ∈ T ↔ Before (val i x0 x1 r) code ((fast i x0 x1).2.1 (ix3 r 0 0)) j (cmem i x0 x1 r c) := fun c => by
      rw [hmem c]; unfold Before; simp only [cand_val h]
    intro c
    constructor
    · intro hc
      obtain ⟨d, hd, rfl⟩ := Finset.mem_image.mp hc
      exact (key d).mp hd
    · intro hc
      obtain ⟨m, g⟩ := c
      by_cases hm : m ∈ (Finset.range 4).image (mem (lane i x0 x1 r g))
      · obtain ⟨s, hs, e⟩ := Finset.mem_image.mp hm
        have e' : cmem i x0 x1 r (⟨s, Finset.mem_range.mp hs⟩, g) = (m, g) := Prod.ext e rfl
        rw [← e']
        exact Finset.mem_image_of_mem _ ((key _).mpr (by rw [e']; exact hc))
      · exfalso
        have all : ∀ s : Fin 4, Before (val i x0 x1 r) code ((fast i x0 x1).2.1 (ix3 r 0 0)) j (cmem i x0 x1 r (s, g)) := fun s => by
          have hl := (cand_picked h g).low (mem (lane i x0 x1 r g) s.val) (Finset.mem_image_of_mem _ (Finset.mem_range.mpr s.isLt)) m hm
          rw [lane_val, lane_val] at hl
          have hcode : ∀ a b : Fin 80, a.val < b.val → code (a, g) < code (b, g) := fun a b hab => by unfold code; simp only; omega
          rcases hl with hl | hl <;> rcases hc with hc | hc
          · exact Or.inl (hl.trans hc)
          · exact Or.inl (hc.1 ▸ hl)
          · refine Or.inl ?_
            show val i x0 x1 r (mem (lane i x0 x1 r g) s.val, g) < _
            rw [hl.1]; exact hc
          · exact Or.inr ⟨hl.1.trans hc.1, (hcode _ _ hl.2).le.trans hc.2⟩
        have e4 : cnt i x0 x1 (ix2 r g) = 4#32 := by
          rw [cnt_row]
          have : (fun s : Fin 4 => (IntOp.ori (BitVec.ofBool (decide (cand i x0 x1 (ix3 r s g) < (fast i x0 x1).2.1 (ix3 r 0 0))))
              (IntOp.andi (BitVec.ofBool (decide (cand i x0 x1 (ix3 r s g) = (fast i x0 x1).2.1 (ix3 r 0 0)))) (IntOp.cmpi .sle (candCol i x0 x1 (ix3 r s g)) ((fast i x0 x1).2.2 (ix3 r 0 0))))).setWidth 32)
              = fun _ => 1#32 := by
            funext s
            have hs := all s
            unfold Before at hs
            rw [candCol_val h (s, g), cand_val h (s, g), ej, before_bit (by have := code_lt (cmem i x0 x1 r (s, g)); omega) (by omega), decide_eq_true hs]
            rfl
          rw [this]
          decide
        exact hb (bad_of (by have := pay33_le (cnt i x0 x1) r g; rw [e4] at this; exact this))
  refine ⟨T.image (cmem i x0 x1 r), ⟨?_, ?_, low_of_before hin⟩, j, hj, ej, hin⟩
  · rw [Finset.card_image_of_injective _ (cmem_inj h), hT.card]
  · intro c hc
    obtain ⟨d, hd, rfl⟩ := Finset.mem_image.mp hc
    rw [← cand_val h]
    exact cand_fin h d

/-- A row selects its sixteen nearest columns, ties by the lower column. -/
theorem selected (h : Enough i x0 x1 r) : ∃ S : Finset Col, Picked (val i x0 x1 r) code 16 S ∧
    ∀ m g, sel i x0 x1 (ix3 r m g) = 1#1 ↔ (m, g) ∈ S := by
  by_cases hb : bad i x0 x1 = 1#1
  · have ht : thr i x0 x1 = (slow i x0 x1).2 := if_pos hb
    obtain ⟨U, hU, hk⟩ : ∃ U : Finset Col, (∀ c ∈ U, val i x0 x1 r c < ⊤) ∧ 16 ≤ U.card := by
      refine ⟨Finset.univ.image (cmem i x0 x1 r), fun c hc => ?_, ?_⟩
      · obtain ⟨d, -, rfl⟩ := Finset.mem_image.mp hc
        rw [← cand_val h]
        exact cand_fin h d
      · rw [Finset.card_image_of_injective _ (cmem_inj h)]
        simp
    obtain ⟨S, hS, -, hlast⟩ := slow_row i x0 x1 r U hU hk
    obtain ⟨j, hj, ej, hm⟩ := hlast (by omega)
    refine ⟨S, hS, fun m g => ?_⟩
    rw [sel_row m g hj (by rw [ht]; exact ej), hm, ht]
  · have ht : thr i x0 x1 = (fast i x0 x1).2 := if_neg hb
    obtain ⟨S, hS, j, hj, ej, hm⟩ := merged h hb
    refine ⟨S, hS, fun m g => ?_⟩
    rw [sel_row m g hj (by rw [ht]; exact ej), hm, ht]
end

end Cert.KernelIdeal.Body

end
-- ==== Proof.Weight.lean ====
module

public import proofs.«01_k».proof.Proof.Choice
public import proofs.«01_k».proof.Proof.Picks
public import proofs.«01_k».proof.Proof.Words
public import Idealize.ShloMosaic.Lib.Pointwise

@[expose] public section

set_option maxRecDepth 16384

noncomputable section

namespace Cert.KernelIdeal.Body

open Cert.KernelIdeal Cert.KernelIdeal.Gen
open Idealize.ShloMosaic Cert.Picks

/-! # What one grid point adds, entry by entry -/

section
variable (d : FVec Ideal S96x80x128 .f32) (s t : IVec S96x80x128 1) (e : FVec Ideal S96x80x128 .f32) (p : FVec Ideal S96x1x1 .f32)
  (q : FVec Ideal S1x80x128 .f32) (u : Vec Ideal S96x1 .f32) (v : Vec Ideal S1x80x128 .f32) (T : Vec Ideal S10240x128 .f32) (r : Fin 96)

theorem pay45_row (m : Fin 80) (g : Fin 128) : k1_pay45 d s t e p q u v (ix3 r m g) =
    Scalar.select (IntOp.andi (s (ix3 r m g)) (t (ix3 r m g))) (Ideal.exp (d (ix3 r m g) * ((-50 : ℝ) : EReal) +
      (e (ix3 r m g) * e (ix3 r m g) + (p (ix3 r 0 0) - q (ix3 0 m g)) * (p (ix3 r 0 0) - q (ix3 0 m g)) +
        (u (ix2 r 0) - v (ix3 0 m g)) * (u (ix2 r 0) - v (ix3 0 m g))) * ((-5 : ℝ) : EReal))) 0 := by
  pointwise [k1_pay45]
  rw [Words.m50, Words.m5]
theorem pay46_row : k1_pay46 d s t e p q u v (ix2 r 0) = ∑ g : Fin 128, ∑ m : Fin 80, k1_pay45 d s t e p q u v (ix3 r m g) := by
  pointwise [k1_pay46]
theorem pay47_row (f : Fin 128) : k1_pay47 d s t e p q u v T (ix2 r f) =
    ∑ x : Fin 10240, k1_pay45 d s t e p q u v (ix3 r ⟨x.val / 128, by omega⟩ ⟨x.val % 128, by omega⟩) * T (ix2 x f) := by
  pointwise [k1_pay47]
theorem pay48_row (f : Fin 64) : k1_pay48 d s t e p q u v T (ix2 r f) = k1_pay47 d s t e p q u v T (ix2 r ⟨f.val, by omega⟩) := by
  pointwise [k1_pay48]
theorem pay49_row : k1_pay49 d s t e p q u v T (ix2 r 0) = ∑ f : Fin 64, k1_pay47 d s t e p q u v T (ix2 r ⟨64 + f.val, by omega⟩) := by
  pointwise [k1_pay49]
theorem pay2_row (a : FVec Ideal S96x1 .f32) (b : FVec Ideal S96x64 .f32) (c : FVec Ideal S96x1 .f32) (z q : Vec Ideal S96x64 .f32) (acc : Vec Ideal S1x1 .f32) :
    k1_pay2 a b c (k1_pay50 z) (k1_pay51 q) acc (ix2 0 0) = acc (ix2 0 0) + ∑ r : Fin 96, ((∑ f : Fin 64, q (ix2 r f)) * a (ix2 r 0) + c (ix2 r 0) -
      ((2 : ℝ) : EReal) * ∑ f : Fin 64, z (ix2 r f) * b (ix2 r f)) := by
  pointwise [k1_pay2, k1_pay50, k1_pay51]
  rw [Words.two]
theorem zrow_row (x3 : Vec Ideal S96x128 .f32) (f : Fin 64) : zrow x3 (ix2 r f) = x3 (ix2 r ⟨f.val, by omega⟩) := by pointwise [zrow]
theorem qrow_row (x3 : Vec Ideal S96x128 .f32) (f : Fin 64) : qrow x3 (ix2 r f) = x3 (ix2 r ⟨64 + f.val, by omega⟩) := by pointwise [qrow]
theorem tab_row (x2 : Vec Ideal S10240x128 .f32) (k : Fin 10240) (f : Fin 128) : tab x2 (ix2 k f) = x2 (ix2 k f) := by pointwise [tab]
theorem same_row (x0 : Vec Ideal S96x8 .f32) (x1 : Vec Ideal S8x80x128 .f32) (m : Fin 80) (g : Fin 128) :
    k1_pay41 (row6 x0) (slab6 x1) (ix3 r m g) = BitVec.ofBool (decide (x0 (ix2 r 6) = x1 (ix3 6 m g))) := by
  pointwise [k1_pay41, row6, slab6]
theorem red_row (x0 : Vec Ideal S96x8 .f32) (x1 : Vec Ideal S8x80x128 .f32) (m : Fin 80) (g : Fin 128) :
    k1_pay42 (row3 x0) (slab3 x1) (ix3 r m g) = x0 (ix2 r 3) - x1 (ix3 3 m g) := by pointwise [k1_pay42, row3, slab3]
theorem green_row (x0 : Vec Ideal S96x8 .f32) : k1_pay43 (row4 x0) (ix3 r 0 0) = x0 (ix2 r 4) := by pointwise [k1_pay43, row4]
theorem green_col (x1 : Vec Ideal S8x80x128 .f32) (m : Fin 80) (g : Fin 128) : k1_pay44 (slab4 x1) (ix3 0 m g) = x1 (ix3 4 m g) := by pointwise [k1_pay44, slab4]
theorem blue_row (x0 : Vec Ideal S96x8 .f32) : row5 x0 (ix2 r 0) = x0 (ix2 r 5) := by pointwise [row5]
theorem blue_col (x1 : Vec Ideal S8x80x128 .f32) (m : Fin 80) (g : Fin 128) : slab5 x1 (ix3 0 m g) = x1 (ix3 5 m g) := by pointwise [slab5]
theorem d2_row (x0 : Vec Ideal S96x8 .f32) (x1 : Vec Ideal S8x80x128 .f32) (m : Fin 80) (g : Fin 128) : d2 x0 x1 (ix3 r m g) =
    (x0 (ix2 r 0) - x1 (ix3 0 m g)) * (x0 (ix2 r 0) - x1 (ix3 0 m g)) + (x0 (ix2 r 1) - x1 (ix3 1 m g)) * (x0 (ix2 r 1) - x1 (ix3 1 m g)) +
      (x0 (ix2 r 2) - x1 (ix3 2 m g)) * (x0 (ix2 r 2) - x1 (ix3 2 m g)) := by
  pointwise [d2, k1_pay7, k1_pay3, k1_pay4, k1_pay5, row0, row1, row2, slab0, slab1, slab2]
theorem own_row (i : grid1.Coords) (w : FVec Ideal S96x80x128 .f32) (m : Fin 80) (g : Fin 128) : k1_pay10 w (k1_pay9 i) (ix3 r m g) =
    if code (m, g) = (i 0).val * 96 + r.val then ⊤ else w (ix3 r m g) := by
  have e : IntOp.addi (Scalar.muli (BitVec.ofNat 32 (i 0).val) 96#32) (BitVec.ofNat 32 r.val) = BitVec.ofNat 32 ((i 0).val * 96 + r.val) := by
    apply BitVec.eq_of_toNat_eq
    simp [IntOp.addi, Scalar.muli, IntOp.muli]
  have hi : (i 0).val < 105 := (i 0).isLt
  pointwise [k1_pay9, k1_pay8, k1_pay10, k1_pay6]
  rw [word_code, e, cmpi_eq_ofNat (by have := code_lt (m, g); omega) (by omega), Words.inf]
  by_cases hc : code (m, g) = (i 0).val * 96 + r.val <;> simp [hc, Scalar.select]
end

section
variable (i : grid1.Coords) (x0 : Vec Ideal S96x8 .f32) (x1 : Vec Ideal S8x80x128 .f32) (x2 : Vec Ideal S10240x128 .f32) (x3 : Vec Ideal S96x128 .f32)

/-- Row `r`'s weight for column `c`. -/
def wgt (r : Fin 96) (c : Col) : EReal :=
  k1_pay45 (d2 x0 x1) (sel i x0 x1) (k1_pay41 (row6 x0) (slab6 x1)) (k1_pay42 (row3 x0) (slab3 x1)) (k1_pay43 (row4 x0)) (k1_pay44 (slab4 x1)) (row5 x0) (slab5 x1) (ix3 r c.1 c.2)

/-- The column of number `x`. -/
def colOf (x : Fin 10240) : Col := (⟨x.val / 128, by omega⟩, ⟨x.val % 128, by omega⟩)
theorem code_colOf (x : Fin 10240) : code (colOf x) = x.val := by unfold code colOf; simp only; omega

/-- What row `r` adds. -/
def rowPart (r : Fin 96) : EReal :=
  (∑ f : Fin 64, x3 (ix2 r ⟨64 + f.val, by omega⟩)) * (∑ g : Fin 128, ∑ m : Fin 80, wgt i x0 x1 r (m, g)) +
    (∑ f : Fin 64, ∑ x : Fin 10240, wgt i x0 x1 r (colOf x) * x2 (ix2 x ⟨64 + f.val, by omega⟩)) -
    ((2 : ℝ) : EReal) * ∑ f : Fin 64, x3 (ix2 r ⟨f.val, by omega⟩) * ∑ x : Fin 10240, wgt i x0 x1 r (colOf x) * x2 (ix2 x ⟨f.val, by omega⟩)

theorem wz47 (r : Fin 96) (f : Fin 128) : k1_pay47 (d2 x0 x1) (sel i x0 x1) (k1_pay41 (row6 x0) (slab6 x1)) (k1_pay42 (row3 x0) (slab3 x1)) (k1_pay43 (row4 x0)) (k1_pay44 (slab4 x1)) (row5 x0) (slab5 x1) (tab x2) (ix2 r f)
    = ∑ x : Fin 10240, wgt i x0 x1 r (colOf x) * x2 (ix2 x f) := by
  rw [pay47_row]
  refine Finset.sum_congr rfl fun x _ => ?_
  rw [tab_row]; rfl

theorem step_row (acc : Vec Ideal S1x1 .f32) :
    step i x0 x1 x2 x3 acc (ix2 0 0) = acc (ix2 0 0) + ∑ r : Fin 96, rowPart i x0 x1 x2 x3 r := by
  refine (pay2_row _ _ _ _ _ _).trans (congrArg _ (Finset.sum_congr rfl fun r _ => ?_))
  have hs : wsum i x0 x1 (ix2 r 0) = ∑ g : Fin 128, ∑ m : Fin 80, wgt i x0 x1 r (m, g) := pay46_row _ _ _ _ _ _ _ _ _
  have hq : wq i x0 x1 x2 (ix2 r 0) = ∑ f : Fin 64, ∑ x : Fin 10240, wgt i x0 x1 r (colOf x) * x2 (ix2 x ⟨64 + f.val, by omega⟩) :=
    (pay49_row _ _ _ _ _ _ _ _ _ _).trans (Finset.sum_congr rfl fun f _ => wz47 i x0 x1 x2 r _)
  have hz : ∀ f : Fin 64, wz i x0 x1 x2 (ix2 r f) = ∑ x : Fin 10240, wgt i x0 x1 r (colOf x) * x2 (ix2 x ⟨f.val, by omega⟩) := fun f =>
    (pay48_row _ _ _ _ _ _ _ _ _ _ f).trans (wz47 i x0 x1 x2 r _)
  unfold rowPart
  rw [hs, hq]
  simp only [hz, zrow_row, qrow_row]
end

end Cert.KernelIdeal.Body

end
-- ==== Proof.Spec.lean ====
module

public import proofs.«01_k».proof.Proof.Picks
public import proofs.«01_k».proof.Proof.Words

@[expose] public section

noncomputable section

namespace Cert.Spec

open Idealize.ShloMosaic Cert.Picks

/-! # The loss as a real number

The points are real and pairwise apart, the colours any extended reals, the features reduced to real unit vectors `z`.
Both programs add up `term i j` over the points `i` and their sixteen nearest others `j`. -/

/-- What both programs compute with. -/
structure Data where
  /-- The points. -/
  p : Fin 10000 → Fin 3 → ℝ
  /-- They are bounded. -/
  bound : ∀ i a, |p i a| ≤ 300000
  /-- They are apart. -/
  apart : ∀ i j, i ≠ j → ∃ a, p i a ≠ p j a
  /-- The colours. -/
  col : Fin 10000 → Fin 3 → EReal
  /-- The labels. -/
  tg : Fin 10000 → BitVec 32
  /-- The normalised features. -/
  z : Fin 10000 → Fin 64 → ℝ

variable (D : Data)

/-- The squared distance of two points. -/
def dd (i j : Fin 10000) : ℝ :=
  (D.p i 0 - D.p j 0) * (D.p i 0 - D.p j 0) + (D.p i 1 - D.p j 1) * (D.p i 1 - D.p j 1) + (D.p i 2 - D.p j 2) * (D.p i 2 - D.p j 2)
/-- The squared distance of two colours. -/
def dc (i j : Fin 10000) : EReal :=
  (D.col i 0 - D.col j 0) * (D.col i 0 - D.col j 0) + (D.col i 1 - D.col j 1) * (D.col i 1 - D.col j 1) + (D.col i 2 - D.col j 2) * (D.col i 2 - D.col j 2)
/-- The squared distances from point `i`, its own at infinity. -/
def dv (i j : Fin 10000) : EReal := if j = i then ⊤ else ((dd D i j : ℝ) : EReal)
/-- The colour weight. -/
def wc (i j : Fin 10000) : ℝ := (Ideal.exp (dc D i j * ((-5 : ℝ) : EReal))).toReal
/-- The weight of a pair of points of one label. -/
def wt (i j : Fin 10000) : ℝ := Real.exp (dd D i j * (-50)) * wc D i j
/-- The squared distance of two feature vectors. -/
def df (i j : Fin 10000) : ℝ := ∑ f : Fin 64, (D.z i f - D.z j f) ^ 2
/-- What a pair adds to the loss. -/
def term (i j : Fin 10000) : ℝ := (if D.tg i = D.tg j then wt D i j else 0) * df D i j

theorem sq_nonneg' (x : EReal) : 0 ≤ x * x := by
  induction x with
  | bot => simp
  | top => simp
  | coe r => rw [← EReal.coe_mul]; exact_mod_cast mul_self_nonneg r

theorem dc_nonneg (i j : Fin 10000) : 0 ≤ dc D i j := add_nonneg (add_nonneg (sq_nonneg' _) (sq_nonneg' _)) (sq_nonneg' _)

/-- A nonnegative number times a negative constant has a real exponential, and splits off a sum. -/
theorem exp_split {x : EReal} (hx : 0 ≤ x) (a : ℝ) :
    Ideal.exp (x * ((-5 : ℝ) : EReal)) = (((Ideal.exp (x * ((-5 : ℝ) : EReal))).toReal : ℝ) : EReal) ∧
    Ideal.exp ((a : EReal) + x * ((-5 : ℝ) : EReal)) = ((Real.exp a * (Ideal.exp (x * ((-5 : ℝ) : EReal))).toReal : ℝ) : EReal) := by
  induction x with
  | bot => simp at hx
  | top =>
    have e : (⊤ : EReal) * ((-5 : ℝ) : EReal) = ⊥ := EReal.top_mul_coe_of_neg (by norm_num)
    rw [e, EReal.add_bot]
    have h0 : Ideal.exp ⊥ = 0 := rfl
    rw [h0]
    simp
  | coe r =>
    rw [← EReal.coe_mul, ← EReal.coe_add]
    show ((Real.exp _ : ℝ) : EReal) = (((Real.exp _ : ℝ) : EReal).toReal : EReal) ∧ ((Real.exp _ : ℝ) : EReal) = ((Real.exp a * ((Real.exp _ : ℝ) : EReal).toReal : ℝ) : EReal)
    rw [EReal.toReal_coe, Real.exp_add]
    exact ⟨rfl, rfl⟩

theorem exp_wc (i j : Fin 10000) : Ideal.exp (dc D i j * ((-5 : ℝ) : EReal)) = ((wc D i j : ℝ) : EReal) := (exp_split (dc_nonneg D i j) 0).1
theorem exp_wt (i j : Fin 10000) : Ideal.exp (((dd D i j : ℝ) : EReal) * ((-50 : ℝ) : EReal) + dc D i j * ((-5 : ℝ) : EReal)) = ((wt D i j : ℝ) : EReal) := by
  rw [← EReal.coe_mul]
  exact (exp_split (dc_nonneg D i j) _).2

theorem dd_nonneg (i j : Fin 10000) : 0 ≤ dd D i j := by unfold dd; exact add_nonneg (add_nonneg (mul_self_nonneg _) (mul_self_nonneg _)) (mul_self_nonneg _)
theorem dd_pos {i j : Fin 10000} (h : i ≠ j) : 0 < dd D i j := by
  obtain ⟨a, ha⟩ := D.apart i j h
  have h' : ∀ a, 0 ≤ (D.p i a - D.p j a) * (D.p i a - D.p j a) := fun a => mul_self_nonneg _
  have hp : 0 < (D.p i a - D.p j a) * (D.p i a - D.p j a) := mul_self_pos.mpr (sub_ne_zero.mpr ha)
  unfold dd
  have h0 := h' 0; have h1 := h' 1; have h2 := h' 2
  fin_cases a <;> simp only [Fin.zero_eta, Fin.mk_one, Fin.reduceFinMk] at hp <;> linarith
theorem dd_self (i : Fin 10000) : dd D i i = 0 := by unfold dd; ring
theorem dd_le (i j : Fin 10000) : dd D i j ≤ 3 * 600000 ^ 2 := by
  have h : ∀ a, (D.p i a - D.p j a) * (D.p i a - D.p j a) ≤ 600000 ^ 2 := fun a => by
    have h1 := abs_le.mp (D.bound i a); have h2 := abs_le.mp (D.bound j a)
    nlinarith
  unfold dd
  have h0 := h 0; have h1 := h 1; have h2 := h 2
  linarith

/-! ## The normalised features -/

/-- A feature over the norm of its vector, the norm kept away from zero. -/
def unit (f : Fin 64 → EReal) (k : Fin 64) : EReal := Ideal.div (f k) (max (Ideal.sqrt (∑ k, f k * f k)) ((Words.eps : ℝ) : EReal))

theorem div_coe_pos (x : EReal) {r : ℝ} (hr : 0 < r) : Ideal.div x (r : EReal) = x * ((r⁻¹ : ℝ) : EReal) := by
  unfold Ideal.div
  rw [if_neg (by exact_mod_cast hr.ne'), EReal.coe_inv]

theorem unit_real (f : Fin 64 → EReal) (k : Fin 64) : unit f k = (((unit f k).toReal : ℝ) : EReal) := by
  suffices h : ∃ r : ℝ, unit f k = r by
    obtain ⟨r, hr⟩ := h
    rw [hr, EReal.toReal_coe]
  have hn : 0 ≤ ∑ k, f k * f k := Finset.sum_nonneg fun k _ => sq_nonneg' _
  have hk : f k * f k ≤ ∑ k, f k * f k := Finset.single_le_sum (f := fun k => f k * f k) (fun k _ => sq_nonneg' _) (Finset.mem_univ k)
  unfold unit
  generalize ∑ k, f k * f k = s at hn hk ⊢
  induction s with
  | bot => simp at hn
  | top =>
    refine ⟨0, ?_⟩
    show Ideal.div (f k) (max ⊤ _) = _
    rw [max_eq_left le_top]
    unfold Ideal.div
    simp
  | coe s =>
    have hs : 0 ≤ s := by exact_mod_cast hn
    have e : Ideal.sqrt (s : EReal) = ((Real.sqrt s : ℝ) : EReal) := by
      show (if s < 0 then ⊥ else ((Real.sqrt s : ℝ) : EReal)) = _
      rw [if_neg (not_lt.mpr hs)]
    rw [e, ← EReal.coe_strictMono.monotone.map_max, div_coe_pos _ (lt_max_of_lt_right Words.eps_pos)]
    generalize f k = x at hk ⊢
    induction x with
    | bot => simp at hk
    | top => simp at hk
    | coe x => exact ⟨_, (EReal.coe_mul _ _).symm⟩

/-! ## Sums of real numbers -/

theorem coe_sum {α : Type} (s : Finset α) (f : α → ℝ) : ((∑ x ∈ s, f x : ℝ) : EReal) = ∑ x ∈ s, ((f x : ℝ) : EReal) := by
  classical
  induction s using Finset.induction_on with
  | empty => simp
  | insert a s ha ih => rw [Finset.sum_insert ha, Finset.sum_insert ha, EReal.coe_add, ih]

/-- A weighted sum of squared differences, expanded. -/
theorem expand {K : Type} [Fintype K] (w : K → ℝ) (z : Fin 64 → ℝ) (t : K → Fin 64 → ℝ) :
    (∑ f, z f * z f) * (∑ x, w x) + (∑ f, ∑ x, w x * (t x f * t x f)) - 2 * ∑ f, z f * ∑ x, w x * t x f
      = ∑ x, w x * ∑ f, (z f - t x f) ^ 2 := by
  have e : ∀ x, w x * ∑ f, (z f - t x f) ^ 2 = ∑ f, (z f * z f * w x + w x * (t x f * t x f) - 2 * (z f * (w x * t x f))) := fun x => by
    rw [Finset.mul_sum]
    exact Finset.sum_congr rfl fun f _ => by ring
  simp only [e]
  rw [Finset.sum_comm (s := (Finset.univ : Finset K))]
  rw [Finset.sum_mul, Finset.mul_sum, ← Finset.sum_add_distrib, ← Finset.sum_sub_distrib]
  refine Finset.sum_congr rfl fun f _ => ?_
  rw [Finset.sum_sub_distrib, Finset.sum_add_distrib, ← Finset.mul_sum, ← Finset.mul_sum, ← Finset.mul_sum]

end Cert.Spec

end
-- ==== Proof.Rows.lean ====
module

public import proofs.«01_k».proof.Proof.Weight
public import proofs.«01_k».proof.Proof.Spec
public import proofs.«01_k».proof.Proof.Picks
public import proofs.«01_k».proof.Proof.Words
public import Idealize.ShloMosaic.Lib.Pointwise

@[expose] public section

set_option maxRecDepth 16384

noncomputable section

namespace Cert.KernelIdeal.Body

open Cert.KernelIdeal Cert.KernelIdeal.Gen
open Idealize.ShloMosaic Cert.Picks

/-! # What a row adds, from the tables it reads -/

open Cert.Spec

/-- Coordinate `a` of point `n`; the points past the last lie far off. -/
def px (D : Data) (n : ℕ) (a : Fin 3) : ℝ := if h : n < 10000 then D.p ⟨n, h⟩ a else 1000000
/-- The table of points, colours and labels, its rows past the last far off. -/
def aux (D : Data) (n : ℕ) : Fin 8 → EReal :=
  if h : n < 10000 then ![((D.p ⟨n, h⟩ 0 : ℝ) : EReal), ((D.p ⟨n, h⟩ 1 : ℝ) : EReal), ((D.p ⟨n, h⟩ 2 : ℝ) : EReal), D.col ⟨n, h⟩ 0, D.col ⟨n, h⟩ 1, D.col ⟨n, h⟩ 2,
    (((D.tg ⟨n, h⟩).toInt : ℝ) : EReal), 0] else fun _ => ((1000000 : ℝ) : EReal)
/-- The table of normalised features, its rows past the last zero. -/
def zt (D : Data) (n : ℕ) (f : Fin 64) : ℝ := if h : n < 10000 then D.z ⟨n, h⟩ f else 0

theorem aux0 (D : Data) (n : ℕ) : aux D n 0 = ((px D n 0 : ℝ) : EReal) := by unfold aux px; split <;> rfl
theorem aux1 (D : Data) (n : ℕ) : aux D n 1 = ((px D n 1 : ℝ) : EReal) := by unfold aux px; split <;> rfl
theorem aux2 (D : Data) (n : ℕ) : aux D n 2 = ((px D n 2 : ℝ) : EReal) := by unfold aux px; split <;> rfl

/-- The squared distance of two rows of the table. -/
def pd (D : Data) (n m : ℕ) : ℝ := (px D n 0 - px D m 0) * (px D n 0 - px D m 0) + (px D n 1 - px D m 1) * (px D n 1 - px D m 1) + (px D n 2 - px D m 2) * (px D n 2 - px D m 2)

theorem px_real (D : Data) (I : Fin 10000) (a : Fin 3) : px D I.val a = D.p I a := dif_pos I.isLt
theorem px_far (D : Data) {n : ℕ} (h : 10000 ≤ n) (a : Fin 3) : px D n a = 1000000 := dif_neg (not_lt.mpr h)
theorem pd_real (D : Data) (I J : Fin 10000) : pd D I.val J.val = dd D I J := by unfold pd dd; simp only [px_real]
theorem pd_far (D : Data) (I : Fin 10000) {n : ℕ} (h : 10000 ≤ n) : 3 * 600000 ^ 2 < pd D I.val n := by
  have hb : ∀ a, (600000 : ℝ) ^ 2 < (D.p I a - 1000000) * (D.p I a - 1000000) := fun a => by
    have := abs_le.mp (D.bound I a)
    nlinarith
  unfold pd
  simp only [px_real, px_far D h]
  have h0 := hb 0; have h1 := hb 1; have h2 := hb 2
  linarith
theorem pd_far' (D : Data) (I : Fin 10000) {n : ℕ} (h : 10000 ≤ n) : 0 < pd D n I.val := by
  have e : pd D n I.val = pd D I.val n := by unfold pd; ring
  have := pd_far D I h
  rw [e]; linarith
theorem pd_pad (D : Data) {n m : ℕ} (hn : 10000 ≤ n) (hm : 10000 ≤ m) : pd D n m = 0 := by
  unfold pd; simp only [px_far D hn, px_far D hm]; ring

/-- The four blocks a grid point reads, as parts of the tables. -/
structure Blocks (D : Data) (i : grid1.Coords) (x0 : Vec Ideal S96x8 .f32) (x1 : Vec Ideal S8x80x128 .f32) (x2 : Vec Ideal S10240x128 .f32) (x3 : Vec Ideal S96x128 .f32) : Prop where
  h0 : ∀ (r : Fin 96) (k : Fin 8), x0 (ix2 r k) = aux D ((i 0).val * 96 + r.val) k
  h1 : ∀ (k : Fin 8) (m : Fin 80) (g : Fin 128), x1 (ix3 k m g) = aux D (code (m, g)) k
  h2z : ∀ (x : Fin 10240) (f : Fin 64), x2 (ix2 x ⟨f.val, by omega⟩) = ((zt D x.val f : ℝ) : EReal)
  h2q : ∀ (x : Fin 10240) (f : Fin 64), x2 (ix2 x ⟨64 + f.val, by omega⟩) = ((zt D x.val f * zt D x.val f : ℝ) : EReal)
  h3z : ∀ (r : Fin 96) (f : Fin 64), x3 (ix2 r ⟨f.val, by omega⟩) = ((zt D ((i 0).val * 96 + r.val) f : ℝ) : EReal)
  h3q : ∀ (r : Fin 96) (f : Fin 64), x3 (ix2 r ⟨64 + f.val, by omega⟩) = ((zt D ((i 0).val * 96 + r.val) f * zt D ((i 0).val * 96 + r.val) f : ℝ) : EReal)

/-- A sum over the columns, lane by lane, is a sum over their numbers. -/
theorem sum_cols (F : Col → EReal) : (∑ g : Fin 128, ∑ m : Fin 80, F (m, g)) = ∑ x : Fin 10240, F (colOf x) := by
  rw [Finset.sum_comm, ← Fintype.sum_prod_type' (f := fun m g => F (m, g))]
  refine (Fintype.sum_bijective colOf ?_ _ _ fun x => rfl).symm
  constructor
  · intro a b h
    have := congrArg code h
    rw [code_colOf, code_colOf] at this
    exact Fin.ext this
  · intro c
    exact ⟨⟨code c, code_lt c⟩, code_inj (code_colOf _)⟩

section
variable {D : Data} {i : grid1.Coords} {x0 : Vec Ideal S96x8 .f32} {x1 : Vec Ideal S8x80x128 .f32} {x2 : Vec Ideal S10240x128 .f32} {x3 : Vec Ideal S96x128 .f32}
  (B : Blocks D i x0 x1 x2 x3) (r : Fin 96)
include B

theorem d2_eq (c : Col) : d2 x0 x1 (ix3 r c.1 c.2) = ((pd D ((i 0).val * 96 + r.val) (code c) : ℝ) : EReal) := by
  rw [d2_row, B.h0, B.h0, B.h0, B.h1, B.h1, B.h1]
  simp only [aux0, aux1, aux2]
  unfold pd
  push_cast
  rfl
theorem val_eq (c : Col) : val i x0 x1 r c = if code c = (i 0).val * 96 + r.val then ⊤ else ((pd D ((i 0).val * 96 + r.val) (code c) : ℝ) : EReal) := by
  rw [← d2_eq B]
  exact own_row r i (d2 x0 x1) c.1 c.2

theorem enough : Enough i x0 x1 r := by
  have hi : (i 0).val < 105 := (i 0).isLt
  intro g
  refine ⟨Finset.univ.erase ⟨((i 0).val * 96 + r.val) / 128 % 80, Nat.mod_lt _ (by omega)⟩, fun s hs => ?_, by rw [Finset.card_erase_of_mem (Finset.mem_univ _)]; simp⟩
  rw [lane_val, val_eq B, if_neg]
  · exact EReal.coe_lt_top _
  · intro h
    have hs := Finset.ne_of_mem_erase hs
    apply hs
    apply Fin.ext
    unfold code at h
    simp only at h ⊢
    omega

theorem wgt_eq (c : Col) : wgt i x0 x1 r c = if sel i x0 x1 (ix3 r c.1 c.2) = 1#1 ∧ aux D ((i 0).val * 96 + r.val) 6 = aux D (code c) 6 then
      Ideal.exp (((pd D ((i 0).val * 96 + r.val) (code c) : ℝ) : EReal) * ((-50 : ℝ) : EReal) +
        ((aux D ((i 0).val * 96 + r.val) 3 - aux D (code c) 3) * (aux D ((i 0).val * 96 + r.val) 3 - aux D (code c) 3) +
          (aux D ((i 0).val * 96 + r.val) 4 - aux D (code c) 4) * (aux D ((i 0).val * 96 + r.val) 4 - aux D (code c) 4) +
          (aux D ((i 0).val * 96 + r.val) 5 - aux D (code c) 5) * (aux D ((i 0).val * 96 + r.val) 5 - aux D (code c) 5)) * ((-5 : ℝ) : EReal)) else 0 := by
  unfold wgt
  rw [pay45_row, d2_eq B, same_row, red_row, green_row, green_col, blue_row, blue_col]
  simp only [B.h0, B.h1]
  show Scalar.select (IntOp.andi _ (BitVec.ofBool (decide (aux D _ 6 = aux D (code c) 6)))) _ _ = _
  have h2 : ∀ b : BitVec 1, b = 1#1 ∨ b = 0#1 := by decide
  rcases h2 (sel i x0 x1 (ix3 r c.1 c.2)) with h | h <;> by_cases h' : aux D ((i 0).val * 96 + r.val) 6 = aux D (code c) 6 <;>
    simp [h, h', Scalar.select, IntOp.andi]
end

/-- Point `j`'s weight in row `I`, from the row's neighbours. -/
def wv (D : Data) (S : Fin 10000 → Finset (Fin 10000)) (I : Fin 10000) (n : ℕ) : ℝ :=
  if h : n < 10000 then (if (⟨n, h⟩ : Fin 10000) ∈ S I ∧ D.tg I = D.tg ⟨n, h⟩ then wt D I ⟨n, h⟩ else 0) else 0

/-- The column of point `j`. -/
def pcol (j : Fin 10000) : Col := colOf ⟨j.val, by omega⟩
theorem code_pcol (j : Fin 10000) : code (pcol j) = j.val := code_colOf _
theorem pcol_inj : Function.Injective pcol := fun a b h => by
  have := congrArg code h
  rw [code_pcol, code_pcol] at this
  exact Fin.ext this

theorem aux6_iff (D : Data) (I J : Fin 10000) : aux D I.val 6 = aux D J.val 6 ↔ D.tg I = D.tg J := by
  have e : ∀ I : Fin 10000, aux D I.val 6 = (((D.tg I).toInt : ℝ) : EReal) := fun I => by unfold aux; rw [dif_pos I.isLt]; rfl
  rw [e, e]
  constructor
  · intro h
    have h : (D.tg I).toInt = (D.tg J).toInt := by exact_mod_cast h
    exact BitVec.eq_of_toInt_eq h
  · intro h; rw [h]

section
variable {D : Data} {S : Fin 10000 → Finset (Fin 10000)} (hS : ∀ I, Picked (dv D I) Fin.val 16 (S I))
  {i : grid1.Coords} {x0 : Vec Ideal S96x8 .f32} {x1 : Vec Ideal S8x80x128 .f32} {x2 : Vec Ideal S10240x128 .f32} {x3 : Vec Ideal S96x128 .f32}
  (B : Blocks D i x0 x1 x2 x3) (r : Fin 96)
include hS B

/-- A point's row selects its neighbours' columns. -/
theorem sel_real (I : Fin 10000) (hI : (i 0).val * 96 + r.val = I.val) (c : Col) :
    sel i x0 x1 (ix3 r c.1 c.2) = 1#1 ↔ ∃ j ∈ S I, pcol j = c := by
  obtain ⟨T, hT, hsel⟩ := selected (enough B r)
  have hv : ∀ j, val i x0 x1 r (pcol j) = dv D I j := fun j => by
    rw [val_eq B, code_pcol, hI, pd_real]
    unfold dv
    by_cases h : j = I
    · rw [if_pos h, if_pos (congrArg Fin.val h)]
    · rw [if_neg h, if_neg fun h' => h (Fin.ext h')]
  have hreal : ∀ c ∈ T, code c < 10000 := by
    intro c hc
    by_contra hcn
    have hcn := not_lt.mp hcn
    have hsub : (Finset.univ.erase I).image pcol ⊆ T := by
      intro d hd
      obtain ⟨j, hj, rfl⟩ := Finset.mem_image.mp hd
      have hj := Finset.ne_of_mem_erase hj
      by_contra hdT
      have h1 : val i x0 x1 r c = ((pd D I.val (code c) : ℝ) : EReal) := by
        rw [val_eq B, hI, if_neg (by omega)]
      have h2 : val i x0 x1 r (pcol j) = ((dd D I j : ℝ) : EReal) := by
        rw [hv]; exact if_neg hj
      have h3 : val i x0 x1 r (pcol j) < val i x0 x1 r c := by
        rw [h1, h2]
        exact_mod_cast lt_of_le_of_lt (dd_le D I j) (pd_far D I hcn)
      rcases hT.low c hc _ hdT with h | h
      · exact absurd h (not_lt.mpr h3.le)
      · exact absurd h.1 (ne_of_gt h3)
    have := Finset.card_le_card hsub
    rw [Finset.card_image_of_injective _ pcol_inj, Finset.card_erase_of_mem (Finset.mem_univ _), hT.card] at this
    simp at this
  have hex : ∀ c ∈ T, ∃ j, pcol j = c := fun c hc => ⟨⟨code c, hreal c hc⟩, code_inj (code_pcol _)⟩
  have hT' : Picked (dv D I) Fin.val 16 (Finset.univ.filter fun j => pcol j ∈ T) := by
    refine ⟨?_, ?_, ?_⟩
    · rw [← hT.card, ← Finset.card_image_of_injective _ pcol_inj]
      congr 1
      ext c
      simp only [Finset.mem_image, Finset.mem_filter, Finset.mem_univ, true_and]
      constructor
      · rintro ⟨j, hj, rfl⟩; exact hj
      · intro hc
        obtain ⟨j, rfl⟩ := hex c hc
        exact ⟨j, hc, rfl⟩
    · intro j hj
      rw [← hv]
      exact hT.fin _ (Finset.mem_filter.mp hj).2
    · intro j hj e he
      have h := hT.low (pcol j) (Finset.mem_filter.mp hj).2 (pcol e) (fun h => he (Finset.mem_filter.mpr ⟨Finset.mem_univ _, h⟩))
      rwa [hv, hv, code_pcol, code_pcol] at h
  rw [hsel c.1 c.2, (hS I).unique hT']
  constructor
  · intro hc
    obtain ⟨j, hj⟩ := hex _ hc
    exact ⟨j, Finset.mem_filter.mpr ⟨Finset.mem_univ _, by rw [hj]; exact hc⟩, hj⟩
  · rintro ⟨j, hj, rfl⟩
    exact (Finset.mem_filter.mp hj).2

theorem wgt_real (I : Fin 10000) (hI : (i 0).val * 96 + r.val = I.val) (x : Fin 10240) : wgt i x0 x1 r (colOf x) = ((wv D S I x.val : ℝ) : EReal) := by
  have hsel := sel_real hS B r I hI (colOf x)
  rw [wgt_eq B, hI, code_colOf]
  unfold wv
  by_cases hx : x.val < 10000
  · rw [dif_pos hx]
    have hm : (∃ j ∈ S I, pcol j = colOf x) ↔ (⟨x.val, hx⟩ : Fin 10000) ∈ S I := by
      constructor
      · rintro ⟨j, hj, e⟩
        have : j = ⟨x.val, hx⟩ := Fin.ext (by have := congrArg code e; rwa [code_pcol, code_colOf] at this)
        rw [← this]; exact hj
      · intro h; exact ⟨_, h, rfl⟩
    have ha : (aux D I.val 6 = aux D x.val 6) ↔ D.tg I = D.tg ⟨x.val, hx⟩ := aux6_iff D I ⟨x.val, hx⟩
    by_cases hc : (⟨x.val, hx⟩ : Fin 10000) ∈ S I ∧ D.tg I = D.tg ⟨x.val, hx⟩
    · rw [if_pos hc, if_pos ⟨hsel.mpr (hm.mpr hc.1), ha.mpr hc.2⟩, ← exp_wt, ← pd_real]
      have e : ∀ J : Fin 10000, aux D J.val 3 = D.col J 0 ∧ aux D J.val 4 = D.col J 1 ∧ aux D J.val 5 = D.col J 2 := fun J => by
        unfold aux; rw [dif_pos J.isLt]; exact ⟨rfl, rfl, rfl⟩
      have e2 := e ⟨x.val, hx⟩
      simp only at e2
      rw [(e I).1, (e I).2.1, (e I).2.2, e2.1, e2.2.1, e2.2.2]
      rfl
    · rw [if_neg hc, if_neg fun h => hc ⟨hm.mp (hsel.mp h.1), ha.mp h.2⟩]; rfl
  · rw [dif_neg hx, if_neg]
    · rfl
    · rintro ⟨h, -⟩
      obtain ⟨j, -, e⟩ := hsel.mp h
      have := congrArg code e
      rw [code_pcol, code_colOf] at this
      omega

theorem wgt_pad (hn : 10000 ≤ (i 0).val * 96 + r.val) (x : Fin 10240) (hx : x.val < 10000) : wgt i x0 x1 r (colOf x) = 0 := by
  rw [wgt_eq B, if_neg]
  rintro ⟨hs, -⟩
  have hi : (i 0).val < 105 := (i 0).isLt
  obtain ⟨T, hT, hsel⟩ := selected (enough B r)
  have hc := (hsel _ _).mp hs
  have hex : ∃ y : Fin 10240, 10000 ≤ y.val ∧ y.val ≠ (i 0).val * 96 + r.val ∧ colOf y ∉ T := by
    by_contra hno
    push Not at hno
    have hsub : (Finset.univ.image fun k : Fin 100 => colOf ⟨10100 + k.val, by omega⟩) ⊆ T := by
      intro c hc
      obtain ⟨k, -, rfl⟩ := Finset.mem_image.mp hc
      exact hno _ (by simp only; omega) (by simp only; omega)
    have := Finset.card_le_card hsub
    rw [Finset.card_image_of_injective _ (fun a b h => by
      have := congrArg code h
      rw [code_colOf, code_colOf] at this
      exact Fin.ext (by simp only at this; omega)), hT.card] at this
    simp at this
  obtain ⟨y, hy, hyn, hyT⟩ := hex
  have h1 : val i x0 x1 r (colOf y) = 0 := by
    rw [val_eq B, code_colOf, if_neg hyn, pd_pad D hn hy]; rfl
  have h2 : 0 < val i x0 x1 r (colOf x) := by
    rw [val_eq B, code_colOf, if_neg (by omega)]
    exact_mod_cast pd_far' D ⟨x.val, hx⟩ hn
  rcases hT.low _ hc _ hyT with h | h
  · rw [h1] at h; exact absurd h (not_lt.mpr h2.le)
  · have := h.1
    rw [show val i x0 x1 r ((colOf x).1, (colOf x).2) = val i x0 x1 r (colOf x) from rfl, h1] at this
    exact absurd this (ne_of_gt h2)

theorem rowPart_real (I : Fin 10000) (hI : (i 0).val * 96 + r.val = I.val) :
    rowPart i x0 x1 x2 x3 r = ((∑ j ∈ S I, term D I j : ℝ) : EReal) := by
  have hz : ∀ (j : Fin 10000) f, zt D j.val f = D.z j f := fun j f => dif_pos j.isLt
  unfold rowPart
  rw [sum_cols]
  simp only [wgt_real hS B r I hI, B.h2z, B.h2q, B.h3z, B.h3q, hI, ← EReal.coe_mul, ← coe_sum, ← EReal.coe_add, ← EReal.coe_sub]
  rw [expand (fun x : Fin 10240 => wv D S I x.val) (fun f => zt D I.val f) (fun x f => zt D x.val f)]
  congr 1
  rw [Fin.sum_univ_eq_sum_range (fun n => wv D S I n * ∑ f, (zt D I.val f - zt D n f) ^ 2) 10240,
    ← Finset.sum_subset (s₁ := Finset.range 10000) (Finset.range_subset_range.mpr (by omega)),
    ← Fin.sum_univ_eq_sum_range (fun n => wv D S I n * ∑ f, (zt D I.val f - zt D n f) ^ 2) 10000]
  · rw [← Finset.sum_subset (Finset.subset_univ (S I))]
    · refine Finset.sum_congr rfl fun j hj => ?_
      unfold term df wv
      rw [dif_pos j.isLt]
      simp only [hz]
      by_cases ht : D.tg I = D.tg j
      · rw [if_pos ⟨hj, ht⟩, if_pos ht]
      · rw [if_neg (fun h => ht h.2), if_neg ht]
    · intro j _ hj
      have : wv D S I j.val = 0 := by
        unfold wv
        rw [dif_pos j.isLt, if_neg fun h => hj h.1]
      rw [this, zero_mul]
  · intro n _ hn
    have : wv D S I n = 0 := dif_neg (fun h => hn (Finset.mem_range.mpr h))
    rw [this, zero_mul]

theorem rowPart_pad (hn : 10000 ≤ (i 0).val * 96 + r.val) : rowPart i x0 x1 x2 x3 r = 0 := by
  have hz : ∀ f, zt D ((i 0).val * 96 + r.val) f = 0 := fun f => dif_neg (not_lt.mpr hn)
  have hb : ∀ (x : Fin 10240) (f : Fin 64), wgt i x0 x1 r (colOf x) * ((zt D x.val f * zt D x.val f : ℝ) : EReal) = 0 := fun x f => by
    by_cases hx : x.val < 10000
    · rw [wgt_pad hS B r hn x hx, zero_mul]
    · have : zt D x.val f = 0 := dif_neg hx
      rw [this, mul_zero, EReal.coe_zero, mul_zero]
  unfold rowPart
  simp only [B.h2q, B.h3z, B.h3q, hz, hb, mul_zero, EReal.coe_zero, Finset.sum_const_zero, zero_mul, add_zero, sub_zero]
end

end Cert.KernelIdeal.Body

end
-- ==== Proof.Feat.lean ====
module

public import proofs.«01_k».proof.Proof.Run
public import proofs.«01_k».proof.Proof.Rows
public import Idealize.ShloMosaic.Lib.Pointwise
public import Idealize.ShloMosaic.Lib.Pipeline.Value

@[expose] public section

set_option maxRecDepth 16384

noncomputable section

namespace Cert.KernelIdeal.Run

open Cert.KernelIdeal Cert.KernelIdeal.Gen Cert.KernelIdeal.Body
open Idealize.ShloMosaic Idealize.ShloMosaic.TcCoe Idealize.SL Idealize.SL.Sem
open Idealize.ShloMosaic.Pipeline (Dat)
open Cert.Spec

/-! # The table of normalised features -/

/-- A feature over its vector's norm. -/
theorem pay1_read (f : FVec Ideal S10000x64 .f32) (i : Fin 10000) (j : Fin 64) :
    k0_pay1 (F := Ideal) f (ix2 i j) = unit (fun k => f (ix2 i k)) j := by
  unfold k0_pay1
  pointwise
  rw [Words.eps_eq]
  rfl
theorem pay2_read (f : FVec Ideal S10000x64 .f32) (i : Fin 10000) (j : Fin 64) :
    k0_pay2 (F := Ideal) f (ix2 i j) = unit (fun k => f (ix2 i k)) j * unit (fun k => f (ix2 i k)) j := by
  rw [← pay1_read]
  rfl
theorem pay3_read (y : S240x128.Idx) : k0_pay3 (F := Ideal) y = 0 := by
  show Ideal.ofBits .f32 0x00000000#32 = 0
  exact Words.zero

/-- The table: the features, their squares beside them, zeros below. -/
def tab (f : FVec Ideal S10000x64 .f32) : FVec Ideal S10240x128 .f32 := fun y =>
  if h : (y 0).val < 10000 then
    if h' : (y 1).val < 64 then k0_pay1 (F := Ideal) f (ix2 ⟨(y 0).val, h⟩ ⟨(y 1).val, h'⟩)
    else k0_pay2 (F := Ideal) f (ix2 ⟨(y 0).val, h⟩ ⟨(y 1).val - 64, by have : (y 1).val < 128 := (y 1).isLt; omega⟩)
  else 0

theorem eq_ix2 {a b : ℕ} (x : Shape.Idx ⟨2, ![a, b]⟩) (h0 : (x 0).val < a) (h1 : (x 1).val < b) : x = ix2 ⟨(x 0).val, h0⟩ ⟨(x 1).val, h1⟩ := by
  funext d
  fin_cases d <;> rfl

theorem tab_z (f : FVec Ideal S10000x64 .f32) (y : S10240x128.Idx) (i : Fin 10000) (j : Fin 64) (h0 : (y 0).val = i.val) (h1 : (y 1).val = j.val) :
    tab f y = k0_pay1 (F := Ideal) f (ix2 i j) := by
  unfold tab
  rw [dif_pos (h0 ▸ i.isLt), dif_pos (h1 ▸ j.isLt)]
  simp only [h0, h1]
theorem tab_sq (f : FVec Ideal S10000x64 .f32) (y : S10240x128.Idx) (i : Fin 10000) (j : Fin 64) (h0 : (y 0).val = i.val) (h1 : (y 1).val = 64 + j.val) :
    tab f y = k0_pay2 (F := Ideal) f (ix2 i j) := by
  unfold tab
  rw [dif_pos (h0 ▸ i.isLt), dif_neg (by omega)]
  simp only [h0, h1, Nat.add_sub_cancel_left]

theorem tab_far (f : FVec Ideal S10000x64 .f32) (y : S10240x128.Idx) (h0 : ¬ (y 0).val < 10000) : tab f y = 0 := dif_neg h0

theorem hz2 : (![0, 0] : Fin 2 → Nat) = fun _ => 0 := funext fun a => by fin_cases a <;> rfl

theorem out0_read (c : Dev nD) (a0 : Memref sig .tc .vmem S10000x64 .f32) (h0 : a0.IsWhole) (a1 : Memref sig .tc .vmem S10240x128 .f32) (h1 : a1.IsWhole) (f : FVec Ideal S10000x64 .f32) :
    out0_A_1 (F := Ideal) c a0 h0 a1 h1 f = tab f := by
  unfold out0_A_1
  refine (View.read_writes_eq_canon VO0_1 _ _ (cover0_A_1 (F := Ideal) c a0 h0 a1 h1 f)).trans ?_
  funext y
  refine View.canon_apply_of_pieces (tab f) _ ?_ y (cover0_A_1 (F := Ideal) c a0 h0 a1 h1 f y)
  unfold kernelRun0_A
  dsimp only
  sl_unfold_words
  simp only [View.readAt_eq_ld, h0.read_unread, View.ld_unit_zero (S := S10000x64) hz2]
  intro p hp x
  simp only [List.mem_cons, List.not_mem_nil, or_false] at hp
  rcases hp with rfl | rfl | rfl
  · refine (pay3_read x).trans (tab_far f _ ?_).symm
    show ¬ 10000 + 1 * (x 0).val < 10000
    omega
  · have b0 : (x 0).val < 10000 := (x 0).isLt
    have b1 : (x 1).val < 64 := (x 1).isLt
    refine (congrArg (k0_pay2 (F := Ideal) f) (eq_ix2 x b0 b1)).trans (tab_sq f _ ⟨(x 0).val, b0⟩ ⟨(x 1).val, b1⟩ ?_ ?_).symm
    · show 0 + 1 * (x 0).val = (x 0).val
      omega
    · show 64 + 1 * (x 1).val = 64 + (x 1).val
      omega
  · have b0 : (x 0).val < 10000 := (x 0).isLt
    have b1 : (x 1).val < 64 := (x 1).isLt
    refine (congrArg (k0_pay1 (F := Ideal) f) (eq_ix2 x b0 b1)).trans (tab_z f _ ⟨(x 0).val, b0⟩ ⟨(x 1).val, b1⟩ ?_ ?_).symm
    · show 0 + 1 * (x 0).val = (x 0).val
      omega
    · show 0 + 1 * (x 1).val = (x 1).val
      omega

variable (m : (ℓ : Loc nD τ sig) → Buf (Elt Ideal) ℓ) (ρ : Dev nD → PrngReg)

/-- The first launch's one grid point. -/
abbrev pt0 : Fin cfg0.N := ⟨0, by decide⟩

/-- The block the first launch reads is its whole array. -/
theorem iblk0_read (c : Dev nD) (t : Fin cfg0.N) : iblk0 (V0 m ρ) c 0 t = m ((c : Thread nD τ).loc main_arg0) := by
  have ht : t.val = 0 := by have := t.isLt; have : cfg0.N = 1 := rfl; omega
  obtain rfl : t = pt0 := Fin.ext ht
  have hz' : (fun a => win0_0.index pt0 a * main_arg0.ty.shape.size a) = fun _ => 0 := funext fun a => by fin_cases a <;> decide
  exact Memref.read_access_unit_zero (Elt Ideal) main_arg0 hz' (fun a => by rw [congrFun hz' a]; simp) (m ((c : Thread nD τ).loc main_arg0))

/-- What the first launch leaves. -/
abbrev res0 (c : Dev nD) : Buf (Elt Ideal) ((c : Thread nD τ).loc main_v0) := tab (m ((c : Thread nD τ).loc main_arg0))

theorem flushed0 (c : Dev nD) (t : Fin cfg0.N) (hf : (cfg0.win 1).flush t = true) :
    (dat0 (V0 m ρ) c).flushed 1 t = ((cfg0.win 1).blk t).view.read (Elt Ideal) (res0 m c) := by
  have e : outsAt0 (V0 m ρ) c t = res0 m c := by
    unfold outsAt0
    rw [iblk0_read m ρ c t]
    exact out0_read ..
  have ht : t.val = 0 := by have := t.isLt; have : cfg0.N = 1 := rfl; omega
  obtain rfl : t = pt0 := Fin.ext ht
  show (cfg0.win 1).cut (grid0.coords pt0) ((dat0 (V0 m ρ) c).after 1 pt0) = _
  rw [after0_1, e]
  have hz' : (fun a => win0_1.index pt0 a * main_v0.ty.shape.size a) = fun _ => 0 := funext fun a => by fin_cases a <;> decide
  exact (Memref.read_access_unit_zero (Elt Ideal) main_v0 hz' (fun a => by rw [congrFun hz' a]; simp) (res0 m c)).symm

theorem final0 (c : Dev nD) : (dat0 (V0 m ρ) c).arrAt 1 cfg0.N = res0 m c :=
  (dat0 (V0 m ρ) c).arrAt_eq_of_cover 1 (res0 m c) (flushed0 m ρ c) fun i =>
    ⟨pt0, flush0_1 _, by
      show i ∈ ((View.whole main_v0).slice (win0_1.rect pt0)).set
      rw [View.set_slice_whole, Rect.mem_set_unit]
      intro a
      have h0 : (i 0 : Nat) < 10240 := (i 0).isLt
      have h1 : (i 1 : Nat) < 128 := (i 1).isLt
      match a with
      | ⟨0, _⟩ => show win0_1.index pt0 0 * win0_1.size 0 ≤ (i 0 : Nat) ∧ (i 0 : Nat) < win0_1.index pt0 0 * win0_1.size 0 + win0_1.xsize (grid0.coords pt0) 0
                  rw [show win0_1.index pt0 0 * win0_1.size 0 = 0 from by decide +kernel, show win0_1.xsize (grid0.coords pt0) 0 = 10240 from by decide +kernel]; omega
      | ⟨1, _⟩ => show win0_1.index pt0 1 * win0_1.size 1 ≤ (i 1 : Nat) ∧ (i 1 : Nat) < win0_1.index pt0 1 * win0_1.size 1 + win0_1.xsize (grid0.coords pt0) 1
                  rw [show win0_1.index pt0 1 * win0_1.size 1 = 0 from by decide +kernel, show win0_1.xsize (grid0.coords pt0) 1 = 128 from by decide +kernel]; omega⟩

/-- The second launch finds the table as the first left it. -/
theorem feat_at (c : Dev nD) : W2 m ρ c (Proc.devRef .tc main_v0) = tab (m ((c : Thread nD τ).loc main_arg0)) :=
  (W2_of m ρ c main_v0 (by decide)).trans ((W1_arr m ρ c 1).trans (final0 m ρ c))

end Cert.KernelIdeal.Run
end
end
-- ==== Proof.Host.lean ====
module

public import proofs.«01_k».proof.Proof.Run
public import proofs.«01_k».proof.Proof.Rows
public import Idealize.ShloMosaic.Lib.Pointwise
public import Idealize.ShloMosaic.Lib.StableHlo.ReadAt

@[expose] public section

set_option maxRecDepth 16384

noncomputable section

namespace Cert.KernelIdeal.Run

open Cert.KernelIdeal Cert.KernelIdeal.Gen Cert.KernelIdeal.Body
open Idealize.ShloMosaic Idealize.ShloMosaic.TcCoe Idealize.SL.Sem
open Cert.Spec

/-! # The tables the host lays out, at an index -/

variable (U : Valuation τ sig (Elt Ideal))

theorem row_0 (n : Fin 10000) : StableHlo.after hostOps1 U (Proc.devRef .tc main_v6) (ix2 (⟨n.val, by omega⟩ : Fin 10240) (0 : Fin 8)) = U (Proc.devRef .tc main_arg1) (ix2 n (0 : Fin 3)) := by
  after_reads_at
  after_reads_at
theorem row_1 (n : Fin 10000) : StableHlo.after hostOps1 U (Proc.devRef .tc main_v6) (ix2 (⟨n.val, by omega⟩ : Fin 10240) (1 : Fin 8)) = U (Proc.devRef .tc main_arg1) (ix2 n (1 : Fin 3)) := by
  after_reads_at
  after_reads_at
theorem row_2 (n : Fin 10000) : StableHlo.after hostOps1 U (Proc.devRef .tc main_v6) (ix2 (⟨n.val, by omega⟩ : Fin 10240) (2 : Fin 8)) = U (Proc.devRef .tc main_arg1) (ix2 n (2 : Fin 3)) := by
  after_reads_at
  after_reads_at
theorem row_3 (n : Fin 10000) : StableHlo.after hostOps1 U (Proc.devRef .tc main_v6) (ix2 (⟨n.val, by omega⟩ : Fin 10240) (3 : Fin 8)) = U (Proc.devRef .tc main_arg2) (ix2 n (0 : Fin 3)) := by
  after_reads_at
  after_reads_at
theorem row_4 (n : Fin 10000) : StableHlo.after hostOps1 U (Proc.devRef .tc main_v6) (ix2 (⟨n.val, by omega⟩ : Fin 10240) (4 : Fin 8)) = U (Proc.devRef .tc main_arg2) (ix2 n (1 : Fin 3)) := by
  after_reads_at
  after_reads_at
theorem row_5 (n : Fin 10000) : StableHlo.after hostOps1 U (Proc.devRef .tc main_v6) (ix2 (⟨n.val, by omega⟩ : Fin 10240) (5 : Fin 8)) = U (Proc.devRef .tc main_arg2) (ix2 n (2 : Fin 3)) := by
  after_reads_at
  after_reads_at
theorem row_6 (n : Fin 10000) : StableHlo.after hostOps1 U (Proc.devRef .tc main_v6) (ix2 (⟨n.val, by omega⟩ : Fin 10240) (6 : Fin 8)) = (((U (Proc.devRef .tc main_arg3) (ix1 n) : BitVec 32).toInt : ℝ) : EReal) := by
  after_reads_at
  after_reads_at
  rfl
theorem row_7 (n : Fin 10000) : StableHlo.after hostOps1 U (Proc.devRef .tc main_v6) (ix2 (⟨n.val, by omega⟩ : Fin 10240) (7 : Fin 8)) = (0 : EReal) := by
  after_reads_at
  after_reads_at
theorem row_far (n : Fin 10240) (hn : 10000 ≤ n.val) (k : Fin 8) : StableHlo.after hostOps1 U (Proc.devRef .tc main_v6) (ix2 n k) = ((1000000 : ℝ) : EReal) := by
  after_reads_at
  exact (dif_neg (not_lt.mpr hn)).trans Words.far
theorem cube (k : Fin 8) (m : Fin 80) (g : Fin 128) : StableHlo.after hostOps1 U (Proc.devRef .tc main_v8) (ix3 k m g) =
    StableHlo.after hostOps1 U (Proc.devRef .tc main_v6) (ix2 (⟨m.val * 128 + g.val, by omega⟩ : Fin 10240) k) := by
  after_reads_at
  after_reads_at
  after_reads_at
theorem quot : StableHlo.after hostOps2 U (Proc.devRef .tc main_v11) ix0 = Ideal.div (U (Proc.devRef .tc main_v9) (ix2 0 0)) ((10000 : ℝ) : EReal) := by
  after_reads_at
  exact congrArg (Ideal.div _) Words.tenk
end Cert.KernelIdeal.Run
end
end
-- ==== Proof.Near.lean ====
module

public import proofs.«01_k».proof.Proof.Spec
public import Idealize.ShloMosaic.Lib.SortPrefix

@[expose] public section

set_option maxRecDepth 16384

noncomputable section

namespace Cert.Near

open Idealize.ShloMosaic Cert.Picks Cert.Spec

/-! # The order of the reference's sort

A stable sort by a key is the sort by the key and then the position, so the sixteen places after the first of a row's
sort hold its sixteen nearest other points. -/

/-- A key, then the position. -/
def keyPos {n : Nat} (v : Fin n → EReal) (k k' : Fin n) : Bool := decide (v k < v k') || (decide (v k = v k') && decide (k < k'))

theorem total_keyPos {n : Nat} (v : Fin n → EReal) : StrictTotalBefore (keyPos v) :=
  StrictTotalBefore.of_key_then_position (fun a b => decide (a < b)) v (fun a => by simp)
    (fun a b c h h' => by simp only [decide_eq_true_eq] at *; exact lt_trans h h')
    (fun a b => by simp only [decide_eq_true_eq]; exact lt_trichotomy a b)

/-- On a list in the order of its positions the two sorts agree. -/
theorem stableSort_keyPos {n : Nat} (v : Fin n → EReal) (l : List (Fin n)) (hl : l.Pairwise (· < ·)) :
    stableSort (fun k k' => decide (v k < v k')) l = stableSort (keyPos v) l := by
  induction l with
  | nil => rfl
  | cons a l ih =>
    rw [List.pairwise_cons] at hl
    unfold stableSort
    rw [ih hl.2]
    refine insertBefore_congr _ _ a _ fun b hb => ?_
    have hb' : b ∈ l := (perm_stableSort _ l).mem_iff.mp hb
    unfold keyPos
    rw [decide_eq_false (not_lt.mpr (hl.1 b hb').le), Bool.and_false, Bool.or_false]

theorem sortedFrom_keyPos {n : Nat} (v : Fin n → EReal) : sortedFrom (fun k k' => decide (v k < v k')) = sortedFrom (keyPos v) := by
  funext k
  unfold sortedFrom
  rw [List.get_of_eq (show sortPositions n (fun k k' => decide (v k < v k')) = sortPositions n (keyPos v) from
    stableSort_keyPos v _ (List.pairwise_lt_finRange n))]
  rfl

theorem of_keyPos {n : Nat} (v : Fin n → EReal) {a b : Fin n} (h : keyPos v a b = true) : v a < v b ∨ (v a = v b ∧ a < b) := by
  unfold keyPos at h
  simpa only [Bool.or_eq_true, Bool.and_eq_true, decide_eq_true_eq] using h

/-- An earlier place of the sort holds an earlier position. -/
theorem sorted_lt {n : Nat} (v : Fin n → EReal) (a b : Fin n) (hab : a < b) :
    v (sortedFrom (keyPos v) a) < v (sortedFrom (keyPos v) b) ∨
      (v (sortedFrom (keyPos v) a) = v (sortedFrom (keyPos v) b) ∧ sortedFrom (keyPos v) a < sortedFrom (keyPos v) b) := by
  have hT := total_keyPos v
  have hp := hT.sorted_stableSort (List.finRange n)
  have hba : keyPos v (sortedFrom (keyPos v) b) (sortedFrom (keyPos v) a) = false := by
    unfold sortedFrom sortPositions
    exact (List.pairwise_iff_get.mp hp) _ _ hab
  have hne : sortedFrom (keyPos v) a ≠ sortedFrom (keyPos v) b := fun e => hab.ne (sortedFrom_injective _ e)
  rcases hT.total _ _ hne with h | h
  · exact of_keyPos v h
  · rw [h] at hba; exact absurd hba (by decide)

variable (D : Data)

/-- The place-to-point map of row `i`'s sort by distance. -/
def ord (i : Fin 10000) : Fin 10000 → Fin 10000 := sortedFrom (keyPos fun j => ((dd D i j : ℝ) : EReal))
/-- The point in place `k + 1`. -/
def nb (i : Fin 10000) (k : Fin 16) : Fin 10000 := ord D i ⟨k.val + 1, by omega⟩

theorem ord_inj (i : Fin 10000) : Function.Injective (ord D i) := sortedFrom_injective _
theorem ord_surj (i j : Fin 10000) : ∃ a, ord D i a = j := sortedFrom_surjective _ j
theorem ord_lt (i : Fin 10000) {a b : Fin 10000} (hab : a < b) :
    dd D i (ord D i a) < dd D i (ord D i b) ∨ (dd D i (ord D i a) = dd D i (ord D i b) ∧ ord D i a < ord D i b) := by
  have h := sorted_lt (fun j => ((dd D i j : ℝ) : EReal)) a b hab
  unfold ord
  simpa only [EReal.coe_lt_coe_iff, EReal.coe_eq_coe_iff] using h

/-- A point is the nearest to itself. -/
theorem ord_zero (i : Fin 10000) : ord D i 0 = i := by
  obtain ⟨a, ha⟩ := ord_surj D i i
  by_cases h : a = 0
  · rw [← h]; exact ha
  · have hne : i ≠ ord D i 0 := fun e => h (ord_inj D i (ha.trans e))
    have h0 := ord_lt D i (a := 0) (b := a) (Fin.pos_iff_ne_zero.mpr h)
    rw [ha, dd_self] at h0
    have := dd_pos D hne
    rcases h0 with h0 | h0
    · exact absurd h0 (not_lt.mpr this.le)
    · exact absurd h0.1 this.ne'

theorem nb_inj (i : Fin 10000) : Function.Injective (nb D i) := fun a b e => by
  have := congrArg Fin.val (ord_inj D i e)
  exact Fin.ext (by simpa using this)

/-- The sixteen nearest other points. -/
def near (i : Fin 10000) : Finset (Fin 10000) := Finset.univ.map ⟨nb D i, nb_inj D i⟩
theorem mem_near (i c : Fin 10000) : c ∈ near D i ↔ ∃ k, nb D i k = c := by
  unfold near
  simp only [Finset.mem_map, Finset.mem_univ, true_and, Function.Embedding.coeFn_mk]

theorem sum_near {M : Type} [AddCommMonoid M] (i : Fin 10000) (f : Fin 10000 → M) : ∑ j ∈ near D i, f j = ∑ k : Fin 16, f (nb D i k) := by
  unfold near; simp only [Finset.sum_map, Function.Embedding.coeFn_mk]

theorem nb_ne (i : Fin 10000) (k : Fin 16) : nb D i k ≠ i := fun e => by
  have h : k.val + 1 = 0 := congrArg Fin.val (ord_inj D i (e.trans (ord_zero D i).symm))
  exact Nat.succ_ne_zero _ h

theorem picked_near (i : Fin 10000) : Picked (dv D i) Fin.val 16 (near D i) where
  card := by unfold near; rw [Finset.card_map]; simp
  fin c hc := by
    obtain ⟨k, rfl⟩ := (mem_near D i _).mp hc
    show dv D i (nb D i k) < ⊤
    rw [show dv D i (nb D i k) = _ from if_neg (nb_ne D i k)]
    exact EReal.coe_lt_top _
  low c hc e he := by
    obtain ⟨k, rfl⟩ := (mem_near D i _).mp hc
    show dv D i (nb D i k) < dv D i e ∨ (dv D i (nb D i k) = dv D i e ∧ (nb D i k).val < e.val)
    have hk : dv D i (nb D i k) = ((dd D i (nb D i k) : ℝ) : EReal) := if_neg (nb_ne D i k)
    rw [hk]
    obtain ⟨b, rfl⟩ := ord_surj D i e
    by_cases hb : b = 0
    · subst hb
      rw [ord_zero]
      exact Or.inl (by rw [show dv D i i = ⊤ from if_pos rfl]; exact EReal.coe_lt_top _)
    · have hne : ord D i b ≠ i := fun e => hb (ord_inj D i (e.trans (ord_zero D i).symm))
      rw [show dv D i (ord D i b) = _ from if_neg hne]
      have hbv : b.val ≠ 0 := fun e => hb (Fin.ext e)
      have hlt : k.val + 1 < b.val := by
        by_contra hcon
        refine he ((mem_near D i _).mpr ⟨⟨b.val - 1, by omega⟩, ?_⟩)
        unfold nb
        exact congrArg (ord D i) (Fin.ext (Nat.sub_add_cancel (Nat.pos_of_ne_zero hbv)))
      have h := ord_lt D i (a := ⟨k.val + 1, by omega⟩) (b := b) hlt
      simp only [EReal.coe_lt_coe_iff, EReal.coe_eq_coe_iff]
      exact h

end Cert.Near

end
-- ==== Proof.Reference.lean ====
module

public import proofs.«01_k».proof.Proof.Near
public import proofs.«01_k».proof.Proof.Gen.ReferenceIdeal.Run
public import proofs.«01_k».proof.Proof.Gen.ReferenceIdeal.Read
public import Idealize.ShloMosaic.Lib.Pointwise

@[expose] public section

set_option maxRecDepth 16384

noncomputable section

namespace Cert.ReferenceIdeal.Sum

open Cert.ReferenceIdeal Cert.ReferenceIdeal.Gen Cert.ReferenceIdeal.Read
open Idealize.ShloMosaic Cert.Picks Cert.Spec Cert.Near

/-! # The reference, as the loss -/

/-- A feature over its vector's norm. -/
theorem v7_read (x0 : FVec Ideal S10000x64 .f32) (i : Fin 10000) (f : Fin 64) :
    val_main_v7 (F := Ideal) x0 (ix2 i f) = unit (fun k => x0 (ix2 i k)) f := by
  unfold val_main_v7 val_main_v6 val_main_v5 val_main_v4 val_main_v3 val_main_v2 val_main_v1 val_main_v0 val_main_cst val_main_cst_0
  pointwise
  rw [Words.eps_eq]
  rfl

/-- The places of a row's sort. -/
theorem top_read (v : FVec Ideal S10000x10000 .f32) (h : S10000x10000.Slices (fun _ => 0) S10000x17) (i : Fin 10000) (k : Fin 17) :
    (Host.topK S10000x17 1 (FloatOps.cmpfTotal (F := Ideal) .gt) v h).2 (ix2 i k) =
      BitVec.ofNat 32 (sortedFrom (fun a b => decide (v (ix2 i b) < v (ix2 i a))) ⟨k.val, by omega⟩).val := by
  have hal : ∀ (j k : Fin 10000), (ix2 i j : S10000x10000.Idx).along 1 k = ix2 i k := fun j k => by
    funext a
    fin_cases a <;> rfl
  have hcmp : ∀ (x y : EReal), (Ideal.cmpTotal .gt x y == 1#1) = decide (y < x) := fun x y => by
    show (BitVec.ofBool (decide (y < x)) == 1#1) = _
    by_cases hxy : y < x <;> simp [hxy]
  show extractStridedSlice S10000x17 (fun _ => 0) (fun j : S10000x10000.Idx => iotaInDim S10000x10000 32 1 (j.along 1
    (sortedFrom (fun k k' => Ideal.cmpTotal .gt (v (j.along 1 k)) (v (j.along 1 k')) == 1#1) (j 1)))) h (ix2 i k) = _
  have e : ∀ (w : S10000x10000.Idx → BitVec 32), extractStridedSlice S10000x17 (fun _ => 0) w h (ix2 i k) = w (ix2 i ⟨k.val, by omega⟩) := fun w => by
    pointwise
  have g : ∀ x : Fin 10000, iotaInDim S10000x10000 32 1 (ix2 i x) = BitVec.ofNat 32 x.val := fun x => rfl
  have q : ∀ x : Fin 10000, (ix2 i x : S10000x10000.Idx) 1 = x := fun x => rfl
  rw [e]
  simp only [hcmp, q]
  have final : ∀ (p : Fin 10000) (f : Fin 10000 → S10000x10000.Idx), f = (fun k => ix2 i k) →
      iotaInDim S10000x10000 32 1 (f (sortedFrom (fun k k' => decide (v (f k') < v (f k))) p)) =
        BitVec.ofNat 32 (sortedFrom (fun a b => decide (v (ix2 i b) < v (ix2 i a))) p).val := by
    rintro p _ rfl
    exact g _
  exact final _ _ (funext (hal _))

theorem toInt_small (n : Fin 10000) : (BitVec.ofNat 32 n.val).toInt = n.val := Picks.toInt_ofNat_small (by omega)

/-- A place is not negative, so it is not wrapped around. -/
theorem wrap (n : Fin 10000) : Scalar.select (IntOp.cmpi .slt (BitVec.ofNat 32 n.val) 0#32) (IntOp.addi (BitVec.ofNat 32 n.val) 10000#32) (BitVec.ofNat 32 n.val) = BitVec.ofNat 32 n.val := by
  have e : IntOp.cmpi .slt (BitVec.ofNat 32 n.val) 0#32 = 0#1 := by
    show BitVec.ofBool ((BitVec.ofNat 32 n.val).slt 0#32) = 0#1
    rw [BitVec.slt, toInt_small, BitVec.toInt_zero, decide_eq_false (not_lt.mpr (Int.natCast_nonneg _))]
    rfl
  rw [e]
  rfl

/-- Nor is it past the end. -/
theorem clamp (n : Fin 10000) : min (BitVec.ofNat 32 n.val).toInt.toNat 9999 = n.val := by
  rw [toInt_small]
  have := n.isLt
  simp only [Int.toNat_natCast]
  omega

/-- The rows a place table picks. -/
theorem take1 {α : Type} (x : S10000.Idx → α) (idx : IVec S10000x16x1 32) (i : Fin 10000) (k : Fin 16) (n : Fin 10000)
    (h : idx (ix3 i k 0) = BitVec.ofNat 32 n.val) :
    Host.gather gather_S10000_S10000x16x1_S10000x16_n_0_n_n_0_2_1 x idx (ix2 i k) = x (ix1 n) := by
  have key : ∀ y, y = ix3 i k 0 → min (idx y).toInt.toNat 9999 + 0 + 0 = n.val := by
    rintro _ rfl
    rw [h, clamp, Nat.add_zero]
  unfold Host.gather
  congr 1
  funext a
  apply Fin.ext
  match a with
  | ⟨0, _⟩ => exact key _ (by funext b; fin_cases b <;> rfl)
theorem take3 {α : Type} (x : S10000x3.Idx → α) (idx : IVec S10000x16x1 32) (i : Fin 10000) (k : Fin 16) (n : Fin 10000) (b : Fin 3)
    (h : idx (ix3 i k 0) = BitVec.ofNat 32 n.val) :
    Host.gather gather_S10000x3_S10000x16x1_S10000x16x3_2_0_n_n_0_2_13 x idx (ix3 i k b) = x (ix2 n b) := by
  have key : ∀ y, y = ix3 i k 0 → min (idx y).toInt.toNat 9999 + 0 + 0 = n.val := by
    rintro _ rfl
    rw [h, clamp, Nat.add_zero]
  unfold Host.gather
  congr 1
  funext a
  apply Fin.ext
  match a with
  | ⟨0, _⟩ => exact key _ (by funext b; fin_cases b <;> rfl)
  | ⟨1, _⟩ => exact Nat.zero_add _
theorem take64 {α : Type} (x : S10000x64.Idx → α) (idx : IVec S10000x16x1 32) (i : Fin 10000) (k : Fin 16) (n : Fin 10000) (b : Fin 64)
    (h : idx (ix3 i k 0) = BitVec.ofNat 32 n.val) :
    Host.gather gather_S10000x64_S10000x16x1_S10000x16x64_2_0_n_n_0_2_164 x idx (ix3 i k b) = x (ix2 n b) := by
  have key : ∀ y, y = ix3 i k 0 → min (idx y).toInt.toNat 9999 + 0 + 0 = n.val := by
    rintro _ rfl
    rw [h, clamp, Nat.add_zero]
  unfold Host.gather
  congr 1
  funext a
  apply Fin.ext
  match a with
  | ⟨0, _⟩ => exact key _ (by funext b; fin_cases b <;> rfl)
  | ⟨1, _⟩ => exact Nat.zero_add _

/-- What the arguments hold. -/
structure Holds (D : Data) (x0 : FVec Ideal S10000x64 .f32) (x1 x2 : FVec Ideal S10000x3 .f32) (x3 : IVec S10000 32) : Prop where
  hz : ∀ i f, unit (fun k => x0 (ix2 i k)) f = ((D.z i f : ℝ) : EReal)
  hp : ∀ i a, x1 (ix2 i a) = ((D.p i a : ℝ) : EReal)
  hc : ∀ i a, x2 (ix2 i a) = D.col i a
  ht : ∀ i, x3 (ix1 i) = D.tg i

variable {D : Data} {x0 : FVec Ideal S10000x64 .f32} {x1 x2 : FVec Ideal S10000x3 .f32} {x3 : IVec S10000 32} (H : Holds D x0 x1 x2 x3)
include H

theorem dd_sum (i j : Fin 10000) : (∑ a, (x1 (ix2 i a) - x1 (ix2 j a)) * (x1 (ix2 i a) - x1 (ix2 j a))) = ((dd D i j : ℝ) : EReal) := by
  simp only [H.hp, ← EReal.coe_sub, ← EReal.coe_mul]
  rw [← coe_sum, Fin.sum_univ_three]
  rfl

/-- The keys of the sort. -/
theorem v18_read (i j : Fin 10000) : val_main_v18 (F := Ideal) x1 (ix2 i j) = ((-Real.sqrt (dd D i j) : ℝ) : EReal) := by
  unfold val_main_v18 val_main_v17 val_main_v16 val_main_v15 val_main_v14 val_main_v13 val_main_v12 val_main_v11 val_main_v10 val_main_v9 val_main_v8 val_main_cst_1 val_main_cst_2
  pointwise
  rw [dd_sum H, max_eq_left (by exact_mod_cast dd_nonneg D i j), Ideal.sqrt_coe, if_neg (not_lt.mpr (dd_nonneg D i j)), EReal.coe_neg]

theorem places (i : Fin 10000) : sortedFrom (fun a b => decide (val_main_v18 (F := Ideal) x1 (ix2 i b) < val_main_v18 (F := Ideal) x1 (ix2 i a))) = ord D i := by
  unfold ord
  rw [← sortedFrom_keyPos]
  congr 1
  funext a b
  rw [v18_read H, v18_read H]
  refine decide_eq_decide.mpr ?_
  rw [EReal.coe_lt_coe_iff, EReal.coe_lt_coe_iff, neg_lt_neg_iff, Real.sqrt_lt_sqrt_iff (dd_nonneg D i a)]

theorem indices_read (i : Fin 10000) (k : Fin 17) : val_main_indices (F := Ideal) x1 (ix2 i k) = BitVec.ofNat 32 (ord D i ⟨k.val, by omega⟩).val := by
  unfold val_main_indices
  rw [top_read, places H]

theorem place (i : Fin 10000) (k : Fin 16) : val_main_indices (F := Ideal) x1 (ix2 i ⟨1 + k.val, by omega⟩) = BitVec.ofNat 32 (nb D i k).val := by
  rw [indices_read H]
  unfold nb
  simp only [Nat.add_comm 1]

theorem v26_read (i : Fin 10000) (k : Fin 16) : val_main_v26 (F := Ideal) x1 (ix3 i k 0) = BitVec.ofNat 32 (nb D i k).val := by
  unfold val_main_v26 val_main_v25 val_main_v24 val_main_v23 val_main_v22 val_main_v21 val_main_v19 val_main_c val_main_c_3
  pointwise
  rw [place H, wrap]
theorem v37_read (i : Fin 10000) (k : Fin 16) : val_main_v37 (F := Ideal) x1 (ix3 i k 0) = BitVec.ofNat 32 (nb D i k).val := by
  unfold val_main_v37 val_main_v36 val_main_v35 val_main_v34 val_main_v33 val_main_v32 val_main_v19 val_main_c_4 val_main_c_5
  pointwise
  rw [place H, wrap]
theorem v53_read (i : Fin 10000) (k : Fin 16) : val_main_v53 (F := Ideal) x1 (ix3 i k 0) = BitVec.ofNat 32 (nb D i k).val := by
  unfold val_main_v53 val_main_v52 val_main_v51 val_main_v50 val_main_v49 val_main_v48 val_main_v19 val_main_c_8 val_main_c_9
  pointwise
  rw [place H, wrap]
theorem v68_read (i : Fin 10000) (k : Fin 16) : val_main_v68 (F := Ideal) x1 (ix3 i k 0) = BitVec.ofNat 32 (nb D i k).val := by
  unfold val_main_v68 val_main_v67 val_main_v66 val_main_v65 val_main_v64 val_main_v63 val_main_v19 val_main_c_12 val_main_c_13
  pointwise
  rw [place H, wrap]

theorem v30_read (i : Fin 10000) (k : Fin 16) : val_main_v30 (F := Ideal) x1 x3 (ix2 i k) = if D.tg i = D.tg (nb D i k) then 1 else 0 := by
  have e : val_main_v27 (F := Ideal) x1 x3 (ix2 i k) = D.tg (nb D i k) := (take1 _ _ i k _ (v26_read H i k)).trans (H.ht _)
  unfold val_main_v30 val_main_v29 val_main_v28 val_main_v20
  pointwise
  rw [e, H.ht]
  by_cases h : D.tg i = D.tg (nb D i k)
  · rw [if_pos h, h]
    show (((IntOp.cmpi .eq (D.tg (nb D i k)) (D.tg (nb D i k))).toNat : ℝ) : EReal) = 1
    simp [IntOp.cmpi]
  · rw [if_neg h]
    show (((IntOp.cmpi .eq (D.tg i) (D.tg (nb D i k))).toNat : ℝ) : EReal) = 0
    simp [IntOp.cmpi, h]

theorem v46_read (i : Fin 10000) (k : Fin 16) : val_main_v46 (F := Ideal) x1 (ix2 i k) = ((Real.exp (dd D i (nb D i k) * (-50)) : ℝ) : EReal) := by
  have e : ∀ b, val_main_v38 (F := Ideal) x1 (ix3 i k b) = x1 (ix2 (nb D i k) b) := fun b => take3 _ _ i k _ b (v37_read H i k)
  unfold val_main_v46 val_main_v45 val_main_v44 val_main_v43 val_main_v42 val_main_v41 val_main_v40 val_main_v39 val_main_v31 val_main_cst_6 val_main_cst_7
  pointwise
  simp only [e]
  rw [dd_sum H, Words.p50, ← EReal.coe_neg, ← EReal.coe_mul, Ideal.exp_coe, neg_mul_comm]

theorem v61_read (i : Fin 10000) (k : Fin 16) : val_main_v61 (F := Ideal) x1 x2 (ix2 i k) = ((wc D i (nb D i k) : ℝ) : EReal) := by
  have e : ∀ b, val_main_v54 (F := Ideal) x1 x2 (ix3 i k b) = x2 (ix2 (nb D i k) b) := fun b => take3 _ _ i k _ b (v53_read H i k)
  unfold val_main_v61 val_main_v60 val_main_v59 val_main_v58 val_main_v57 val_main_v56 val_main_v55 val_main_v47 val_main_cst_10 val_main_cst_11
  pointwise
  simp only [e, H.hc]
  rw [Fin.sum_univ_three, Words.m5, mul_comm]
  exact exp_wc D i _

theorem v73_read (i : Fin 10000) (k : Fin 16) : val_main_v73 (F := Ideal) x0 x1 (ix2 i k) = ((df D i (nb D i k) : ℝ) : EReal) := by
  have e : ∀ b, val_main_v69 (F := Ideal) x0 x1 (ix3 i k b) = val_main_v7 (F := Ideal) x0 (ix2 (nb D i k) b) := fun b => take64 _ _ i k _ b (v68_read H i k)
  unfold val_main_v73 val_main_v72 val_main_v71 val_main_v70 val_main_v62 val_main_cst_14
  pointwise
  simp only [e, v7_read, H.hz, ← EReal.coe_sub, ← EReal.coe_mul]
  rw [← coe_sum]
  unfold df
  simp only [pow_two]

theorem v76_read (i : Fin 10000) (k : Fin 16) : val_main_v76 (F := Ideal) x0 x1 x2 x3 (ix2 i k) = ((term D i (nb D i k) : ℝ) : EReal) := by
  unfold val_main_v76 val_main_v75 val_main_v74
  pointwise
  rw [v30_read H, v46_read H, v61_read H, v73_read H]
  unfold term wt
  split
  · rw [one_mul, ← EReal.coe_mul, ← EReal.coe_mul]
  · simp

/-- The reference's value. -/
theorem v79_read : val_main_v79 (F := Ideal) x0 x1 x2 x3 ix0 = Ideal.div ((∑ i, ∑ j ∈ near D i, term D i j : ℝ) : EReal) ((10000 : ℝ) : EReal) := by
  unfold val_main_v79 val_main_v78 val_main_v77 val_main_cst_15 val_main_cst_16 val_main_cst_17
  pointwise
  simp only [v76_read H, ← coe_sum, ← sum_near]
  rw [Words.tenk]

end Cert.ReferenceIdeal.Sum

end
-- ==== Proof.Total.lean ====
module

public import proofs.«01_k».proof.Proof.Feat
public import proofs.«01_k».proof.Proof.Host
public import proofs.«01_k».proof.Proof.Reference

@[expose] public section

set_option maxRecDepth 16384

noncomputable section

namespace Cert.KernelIdeal.Run

open Cert.KernelIdeal Cert.KernelIdeal.Gen Cert.KernelIdeal.Body
open Idealize.ShloMosaic Idealize.ShloMosaic.TcCoe Idealize.SL Idealize.SL.Sem
open Idealize.ShloMosaic.Pipeline (Dat)
open Cert.Spec Cert.Near

/-! # The kernel's result, as the loss -/

section
variable (V : (c : Dev nD) → (b : Ref sig .tc) → Buf (Elt Ideal) ((c : Thread nD τ).loc b))

theorem idx_0 : ∀ t : Fin cfg1.N, win1_0.index t 0 = t.val ∧ win1_0.index t 1 = 0 := by decide +kernel
theorem idx_1 : ∀ t : Fin cfg1.N, win1_1.index t 0 = 0 ∧ win1_1.index t 1 = 0 ∧ win1_1.index t 2 = 0 := by decide +kernel
theorem idx_2 : ∀ t : Fin cfg1.N, win1_2.index t 0 = 0 ∧ win1_2.index t 1 = 0 := by decide +kernel
theorem idx_3 : ∀ t : Fin cfg1.N, win1_3.index t 0 = t.val ∧ win1_3.index t 1 = 0 := by decide +kernel
theorem coord_val : ∀ t : Fin cfg1.N, (grid1.coords t 0).val = t.val := by decide +kernel

theorem lt_N (t : Fin cfg1.N) : t.val < 105 := Nat.lt_of_lt_of_eq t.isLt N_1

theorem X1_0_read (c : Dev nD) (t : Fin cfg1.N) (r : Fin 96) (k : Fin 8) :
    X1_0 V c t (ix2 r k) = V c main_v6 (ix2 (⟨t.val * 96 + r.val, by have := lt_N t; omega⟩ : Fin 10240) k) := by
  unfold X1_0 Pipeline.Window.fill
  rw [dif_pos (moved1_0 t _)]
  unfold iblk1
  rw [View.read_apply]
  show V c main_v6 _ = _
  congr 1
  funext a
  apply Fin.ext
  match a with
  | ⟨0, _⟩ => show win1_0.index t 0 * 96 + 1 * r.val = t.val * 96 + r.val; rw [(idx_0 t).1]; omega
  | ⟨1, _⟩ => show win1_0.index t 1 * 8 + 1 * k.val = k.val; rw [(idx_0 t).2]; omega
theorem X1_3_read (c : Dev nD) (t : Fin cfg1.N) (r : Fin 96) (k : Fin 128) :
    X1_3 V c t (ix2 r k) = V c main_v0 (ix2 (⟨t.val * 96 + r.val, by have := lt_N t; omega⟩ : Fin 10240) k) := by
  unfold X1_3 Pipeline.Window.fill
  rw [dif_pos (moved1_3 t _)]
  unfold iblk1
  rw [View.read_apply]
  show V c main_v0 _ = _
  congr 1
  funext a
  apply Fin.ext
  match a with
  | ⟨0, _⟩ => show win1_3.index t 0 * 96 + 1 * r.val = t.val * 96 + r.val; rw [(idx_3 t).1]; omega
  | ⟨1, _⟩ => show win1_3.index t 1 * 128 + 1 * k.val = k.val; rw [(idx_3 t).2]; omega
theorem iblk1_1_read (c : Dev nD) (t : Fin cfg1.N) (k : Fin 8) (m : Fin 80) (g : Fin 128) :
    iblk1 V c 1 t (ix3 k m g) = V c main_v8 (ix3 k m g) := by
  unfold iblk1
  rw [View.read_apply]
  show V c main_v8 _ = _
  congr 1
  funext a
  apply Fin.ext
  match a with
  | ⟨0, _⟩ => show win1_1.index t 0 * 8 + 1 * k.val = k.val; rw [(idx_1 t).1]; omega
  | ⟨1, _⟩ => show win1_1.index t 1 * 80 + 1 * m.val = m.val; rw [(idx_1 t).2.1]; omega
  | ⟨2, _⟩ => show win1_1.index t 2 * 128 + 1 * g.val = g.val; rw [(idx_1 t).2.2]; omega
theorem iblk1_2_read (c : Dev nD) (t : Fin cfg1.N) (x : Fin 10240) (k : Fin 128) :
    iblk1 V c 2 t (ix2 x k) = V c main_v0 (ix2 x k) := by
  unfold iblk1
  rw [View.read_apply]
  show V c main_v0 _ = _
  congr 1
  funext a
  apply Fin.ext
  match a with
  | ⟨0, _⟩ => show win1_2.index t 0 * 10240 + 1 * x.val = x.val; rw [(idx_2 t).1]; omega
  | ⟨1, _⟩ => show win1_2.index t 1 * 128 + 1 * k.val = k.val; rw [(idx_2 t).2]; omega
end

variable (m : (ℓ : Loc nD τ sig) → Buf (Elt Ideal) ℓ) (ρ : Dev nD → PrngReg)

section
variable {D : Data} {c : Dev nD}
  (H : Cert.ReferenceIdeal.Sum.Holds D (m ((c : Thread nD τ).loc main_arg0)) (m ((c : Thread nD τ).loc main_arg1)) (m ((c : Thread nD τ).loc main_arg2)) (m ((c : Thread nD τ).loc main_arg3)))
include H

/-- The table of points, colours and labels. -/
theorem aux_read (n : Fin 10240) (k : Fin 8) : W2 m ρ c (Proc.devRef .tc main_v6) (ix2 n k) = aux D n.val k := by
  by_cases hn : n.val < 10000
  · have e : n = (⟨(⟨n.val, hn⟩ : Fin 10000).val, n.isLt⟩ : Fin 10240) := rfl
    have a1 := W1_args m ρ c main_arg1 (by decide)
    have a2 := W1_args m ρ c main_arg2 (by decide)
    have a3 := W1_args m ρ c main_arg3 (by decide)
    unfold aux
    rw [dif_pos hn]
    match k with
    | 0 => exact (row_0 (W1 m ρ c) ⟨n.val, hn⟩).trans ((congrFun a1 _).trans (H.hp _ _))
    | 1 => exact (row_1 (W1 m ρ c) ⟨n.val, hn⟩).trans ((congrFun a1 _).trans (H.hp _ _))
    | 2 => exact (row_2 (W1 m ρ c) ⟨n.val, hn⟩).trans ((congrFun a1 _).trans (H.hp _ _))
    | 3 => exact (row_3 (W1 m ρ c) ⟨n.val, hn⟩).trans ((congrFun a2 _).trans (H.hc _ _))
    | 4 => exact (row_4 (W1 m ρ c) ⟨n.val, hn⟩).trans ((congrFun a2 _).trans (H.hc _ _))
    | 5 => exact (row_5 (W1 m ρ c) ⟨n.val, hn⟩).trans ((congrFun a2 _).trans (H.hc _ _))
    | 6 => exact (row_6 (W1 m ρ c) ⟨n.val, hn⟩).trans (congrArg (fun b : BitVec 32 => ((b.toInt : ℝ) : EReal)) ((congrFun a3 _).trans (H.ht _)))
    | 7 => exact row_7 (W1 m ρ c) ⟨n.val, hn⟩
  · unfold aux
    rw [dif_neg hn]
    exact row_far (W1 m ρ c) n (not_lt.mp hn) k

/-- The same by columns. -/
theorem cube_read (k : Fin 8) (x : Fin 80) (g : Fin 128) : W2 m ρ c (Proc.devRef .tc main_v8) (ix3 k x g) = aux D (code (x, g)) k :=
  (cube (W1 m ρ c) k x g).trans (aux_read m ρ H _ k)

/-- The table of features. -/
theorem feat_z (x : Fin 10240) (f : Fin 64) : W2 m ρ c (Proc.devRef .tc main_v0) (ix2 x (⟨f.val, by omega⟩ : Fin 128)) = ((zt D x.val f : ℝ) : EReal) := by
  rw [feat_at]
  unfold zt
  by_cases hx : x.val < 10000
  · rw [dif_pos hx]
    exact (tab_z _ _ ⟨x.val, hx⟩ f rfl rfl).trans ((pay1_read _ _ _).trans (H.hz _ _))
  · rw [dif_neg hx]
    exact tab_far _ _ hx
/-- The table of squared features. -/
theorem feat_q (x : Fin 10240) (f : Fin 64) : W2 m ρ c (Proc.devRef .tc main_v0) (ix2 x (⟨64 + f.val, by omega⟩ : Fin 128)) = ((zt D x.val f * zt D x.val f : ℝ) : EReal) := by
  rw [feat_at]
  unfold zt
  by_cases hx : x.val < 10000
  · rw [dif_pos hx, EReal.coe_mul]
    refine (tab_sq _ _ ⟨x.val, hx⟩ f rfl rfl).trans ((pay2_read _ _ _).trans ?_)
    rw [H.hz]
  · rw [dif_neg hx, mul_zero]
    exact tab_far _ _ hx

/-- A grid point's blocks. -/
theorem blocks (t : Fin cfg1.N) : Blocks D (grid1.coords t) (X1_0 (V2 m ρ) c t) (iblk1 (V2 m ρ) c 1 t) (iblk1 (V2 m ρ) c 2 t) (X1_3 (V2 m ρ) c t) where
  h0 r k := by rw [coord_val]; exact (X1_0_read (V2 m ρ) c t r k).trans (aux_read m ρ H _ k)
  h1 k x g := (iblk1_1_read (V2 m ρ) c t k x g).trans (cube_read m ρ H k x g)
  h2z x f := (iblk1_2_read (V2 m ρ) c t x _).trans (feat_z m ρ H x f)
  h2q x f := (iblk1_2_read (V2 m ρ) c t x _).trans (feat_q m ρ H x f)
  h3z r f := by rw [coord_val]; exact (X1_3_read (V2 m ρ) c t r _).trans (feat_z m ρ H _ f)
  h3q r f := by rw [coord_val]; exact (X1_3_read (V2 m ρ) c t r _).trans (feat_q m ρ H _ f)

omit H in
/-- What row `n` adds. -/
def rv (D : Data) (n : ℕ) : EReal := if h : n < 10000 then ((∑ j ∈ near D ⟨n, h⟩, term D ⟨n, h⟩ j : ℝ) : EReal) else 0

theorem part_read (t : Fin cfg1.N) (r : Fin 96) :
    rowPart (grid1.coords t) (X1_0 (V2 m ρ) c t) (iblk1 (V2 m ρ) c 1 t) (iblk1 (V2 m ρ) c 2 t) (X1_3 (V2 m ρ) c t) r = rv D (t.val * 96 + r.val) := by
  unfold rv
  by_cases h : t.val * 96 + r.val < 10000
  · rw [dif_pos h]
    exact rowPart_real (picked_near D) (blocks m ρ H t) r ⟨t.val * 96 + r.val, h⟩ (by rw [coord_val])
  · rw [dif_neg h]
    exact rowPart_pad (picked_near D) (blocks m ρ H t) r (by rw [coord_val]; omega)

theorem point_read (t : Fin cfg1.N) (acc : Vec Ideal S1x1 .f32) :
    step (grid1.coords t) (X1_0 (V2 m ρ) c t) (iblk1 (V2 m ρ) c 1 t) (iblk1 (V2 m ρ) c 2 t) (X1_3 (V2 m ρ) c t) acc (ix2 0 0) =
      acc (ix2 0 0) + ∑ x ∈ Finset.range 96, rv D (t.val * 96 + x) := by
  rw [step_row, Finset.sum_range]
  exact congrArg (acc (ix2 0 0) + ·) (Finset.sum_congr rfl fun r _ => part_read m ρ H t r)

theorem acc_read : ∀ (n : ℕ) (h : n < cfg1.N), acc1 (V2 m ρ) c n h (ix2 0 0) = ∑ x ∈ Finset.range ((n + 1) * 96), rv D x
  | 0, h => by
    refine (point_read m ρ H ⟨0, h⟩ (k1_pay1 (F := Ideal))).trans ?_
    have e : k1_pay1 (F := Ideal) (ix2 0 0) = 0 := Words.zero
    rw [e, zero_add]
    simp only [zero_mul, zero_add, one_mul]
  | n + 1, h => by
    refine (point_read m ρ H ⟨n + 1, h⟩ _).trans ?_
    rw [acc_read n (Nat.lt_of_succ_lt h), show (n + 1 + 1) * 96 = (n + 1) * 96 + 96 by ring, Finset.sum_range_add]

omit H in
theorem rv_sum (D : Data) : ∑ x ∈ Finset.range 10080, rv D x = ((∑ i, ∑ j ∈ near D i, term D i j : ℝ) : EReal) := by
  have e : ∀ a b : ℕ, 10000 ≤ a → ∑ x ∈ Finset.range (a + b), rv D x = ∑ x ∈ Finset.range a, rv D x := fun a b ha => by
    rw [Finset.sum_range_add, Finset.sum_eq_zero (s := Finset.range b), add_zero]
    intro x _
    exact dif_neg (by omega)
  rw [show (10080 : ℕ) = 10000 + 80 from rfl, e 10000 80 le_rfl, Finset.sum_range, coe_sum]
  exact Finset.sum_congr rfl fun i _ => dif_pos i.isLt

end

/-- What the second launch leaves. -/
abbrev res1 (c : Dev nD) : Buf (Elt Ideal) ((c : Thread nD τ).loc main_v9) := acc1 (V2 m ρ) c 104 (by rw [show cfg1.N = 105 from N_1]; decide)

theorem last_eq (c : Dev nD) (t : Fin cfg1.N) (e : t.val = 104) : acc1 (V2 m ρ) c t.val t.isLt = res1 m ρ c := by
  obtain ⟨n, hn⟩ := t
  dsimp only at e
  subst e
  rfl

theorem flushed1 (c : Dev nD) (t : Fin cfg1.N) (hf : (cfg1.win 4).flush t = true) :
    (dat1 (V2 m ρ) c).flushed 4 t = ((cfg1.win 4).blk t).view.read (Elt Ideal) (res1 m ρ c) := by
  have h := (flush1_4 t).mp hf
  have ht := lt_N t
  have e : t.val = 104 := by omega
  have hz' : (fun a => win1_4.index t a * main_v9.ty.shape.size a) = fun _ => 0 := funext fun a => by
    have : ∀ (t : Fin cfg1.N) (a : Fin 2), win1_4.index t a * main_v9.ty.shape.size a = 0 := by decide +kernel
    exact this t a
  show (cfg1.win 4).cut (grid1.coords t) ((dat1 (V2 m ρ) c).after 4 t) = _
  rw [after1_4, show acc1 (V2 m ρ) c t.val t.isLt = res1 m ρ c from last_eq m ρ c t e]
  exact (Memref.read_access_unit_zero (Elt Ideal) main_v9 hz' (fun a => by rw [congrFun hz' a]; simp) (res1 m ρ c)).symm

/-- The last grid point. -/
abbrev last1 : Fin cfg1.N := ⟨104, by rw [show cfg1.N = 105 from N_1]; decide⟩

theorem final1 (c : Dev nD) : (dat1 (V2 m ρ) c).arrAt 4 cfg1.N = res1 m ρ c :=
  (dat1 (V2 m ρ) c).arrAt_eq_of_cover 4 (res1 m ρ c) (flushed1 m ρ c) fun i =>
    ⟨last1, (flush1_4 last1).mpr rfl, by
      show i ∈ ((View.whole main_v9).slice (win1_4.rect last1)).set
      rw [View.set_slice_whole, Rect.mem_set_unit]
      intro a
      have h0 : (i 0 : Nat) < 1 := (i 0).isLt
      have h1 : (i 1 : Nat) < 1 := (i 1).isLt
      match a with
      | ⟨0, _⟩ => show win1_4.index last1 0 * win1_4.size 0 ≤ (i 0 : Nat) ∧ (i 0 : Nat) < win1_4.index last1 0 * win1_4.size 0 + win1_4.xsize (grid1.coords last1) 0
                  rw [show win1_4.index last1 0 * win1_4.size 0 = 0 from by decide +kernel, show win1_4.xsize (grid1.coords last1) 0 = 1 from by decide +kernel]; omega
      | ⟨1, _⟩ => show win1_4.index last1 1 * win1_4.size 1 ≤ (i 1 : Nat) ∧ (i 1 : Nat) < win1_4.index last1 1 * win1_4.size 1 + win1_4.xsize (grid1.coords last1) 1
                  rw [show win1_4.index last1 1 * win1_4.size 1 = 0 from by decide +kernel, show win1_4.xsize (grid1.coords last1) 1 = 1 from by decide +kernel]; omega⟩

/-- The kernel's result is the loss. -/
theorem total_read {D : Data} {c : Dev nD}
    (H : Cert.ReferenceIdeal.Sum.Holds D (m ((c : Thread nD τ).loc main_arg0)) (m ((c : Thread nD τ).loc main_arg1)) (m ((c : Thread nD τ).loc main_arg2)) (m ((c : Thread nD τ).loc main_arg3))) :
    W4 m ρ c (Proc.devRef .tc main_v11) ix0 = Ideal.div ((∑ i, ∑ j ∈ near D i, term D i j : ℝ) : EReal) ((10000 : ℝ) : EReal) := by
  refine (quot (W3 m ρ c)).trans (congrArg (Ideal.div · ((10000 : ℝ) : EReal)) ?_)
  have e : W3 m ρ c (Proc.devRef .tc main_v9) = res1 m ρ c := (W3_arr m ρ c 4).trans (final1 m ρ c)
  rw [e]
  exact (acc_read m ρ H 104 _).trans (rv_sum D)

end Cert.KernelIdeal.Run
end
end
-- ==== Proof.Apart.lean ====
module

public import proofs.«01_k».proof.Pre_points_apart
public import proofs.«01_k».proof.Proof.Reference
public import Idealize.ShloMosaic.Lib.Pointwise
public import Idealize.ShloMosaic.Lib.WordCmp

@[expose] public section

set_option maxRecDepth 16384

noncomputable section

namespace Cert.Pre_points_apart

open Idealize.ShloMosaic Cert.Spec

/-! # What the precondition says -/

/-- The shapes fit. -/
theorem facts : Facts where
  slices_S10000x3_S10000x1_0_0 := by decide
  shapeCasts_S10000x1_S10000 := by decide
  bcast_S10000_S10000x10000_0 := by decide
  bcast_S10000_S10000x10000_1 := by decide
  slices_S10000x3_S10000x1_0_1 := by decide
  slices_S10000x3_S10000x1_0_2 := by decide
  bcast_S_S10000x3 := by decide

variable [Facts] (x0 : FVec Ideal S10000x64 .f32) (x1 x2 : FVec Ideal S10000x3 .f32) (x3 : IVec S10000 32)

theorem and_iff (p q : Prop) [Decidable p] [Decidable q] :
    IntOp.andi (BitVec.ofBool (decide p)) (BitVec.ofBool (decide q)) = 1#1 ↔ p ∧ q := by
  by_cases hp : p <;> by_cases hq : q <;> simp [hp, hq, IntOp.andi]
theorem or_iff (e p q r : Prop) [Decidable e] [Decidable p] [Decidable q] [Decidable r] :
    IntOp.ori (IntOp.ori (IntOp.ori (BitVec.ofBool (decide e)) (BitVec.ofBool (decide p))) (BitVec.ofBool (decide q))) (BitVec.ofBool (decide r)) = 1#1 ↔
      e ∨ p ∨ q ∨ r := by
  by_cases he : e <;> by_cases hp : p <;> by_cases hq : q <;> by_cases hr : r <;> simp [he, hp, hq, hr, IntOp.ori]
theorem cmp_eq (i j : Fin 10000) : IntOp.cmpi .eq (BitVec.ofNat 32 i.val) (BitVec.ofNat 32 j.val) = BitVec.ofBool (decide (i = j)) := by
  have h : (BitVec.ofNat 32 i.val = BitVec.ofNat 32 j.val) ↔ i = j := by
    rw [WordCmp.ofNat_eq_ofNat_iff (by omega) (by omega)]
    exact Fin.ext_iff.symm
  by_cases e : i = j
  · subst e; simp [IntOp.cmpi]
  · have : ¬ BitVec.ofNat 32 i.val = BitVec.ofNat 32 j.val := fun x => e (h.mp x)
    show BitVec.ofBool (_ == _) = _
    rw [beq_false_of_ne this, decide_eq_false e]

/-- The coordinates are bounded. -/
theorem snd_read (i : Fin 10000) (a : Fin 3) : (fn (F := Ideal) x0 x1 x2 x3).2 (ix2 i a) = 1#1 ↔
    ((-300000 : ℝ) : EReal) ≤ x1 (ix2 i a) ∧ x1 (ix2 i a) ≤ ((300000 : ℝ) : EReal) := by
  unfold fn fn_part1
  dsimp only
  pointwise
  rw [Words.hi, Words.lo]
  exact and_iff _ _
/-- Two points differ. -/
theorem fst_read (i j : Fin 10000) : (fn (F := Ideal) x0 x1 x2 x3).1 (ix2 i j) = 1#1 ↔
    i = j ∨ x1 (ix2 i 0) ≠ x1 (ix2 j 0) ∨ x1 (ix2 i 1) ≠ x1 (ix2 j 1) ∨ x1 (ix2 i 2) ≠ x1 (ix2 j 2) := by
  unfold fn fn_part1
  dsimp only
  pointwise
  rw [cmp_eq]
  exact or_iff _ _ _ _

/-- Under the precondition the arrays hold what both programs compute with. -/
theorem data (h1 : (fn (F := Ideal) x0 x1 x2 x3).1 = fun _ => 1#1) (h2 : (fn (F := Ideal) x0 x1 x2 x3).2 = fun _ => 1#1) :
    ∃ D : Data, Cert.ReferenceIdeal.Sum.Holds D x0 x1 x2 x3 := by
  have hb : ∀ (i : Fin 10000) (a : Fin 3), ((-300000 : ℝ) : EReal) ≤ x1 (ix2 i a) ∧ x1 (ix2 i a) ≤ ((300000 : ℝ) : EReal) :=
    fun i a => (snd_read x0 x1 x2 x3 i a).mp (congrFun h2 _)
  have hr : ∀ (i : Fin 10000) (a : Fin 3), x1 (ix2 i a) = ((EReal.toReal (x1 (ix2 i a)) : ℝ) : EReal) := fun i a =>
    (EReal.coe_toReal (ne_top_of_le_ne_top (EReal.coe_ne_top _) (hb i a).2) (ne_bot_of_le_ne_bot (EReal.coe_ne_bot _) (hb i a).1)).symm
  refine ⟨{ p := fun i a => EReal.toReal (x1 (ix2 i a)), bound := ?_, apart := ?_, col := fun i a => x2 (ix2 i a), tg := fun i => x3 (ix1 i),
            z := fun i f => (unit (fun k => x0 (ix2 i k)) f).toReal }, ?_⟩
  · intro i a
    have h := hb i a
    rw [hr i a] at h
    exact abs_le.mpr ⟨EReal.coe_le_coe_iff.mp h.1, EReal.coe_le_coe_iff.mp h.2⟩
  · intro i j hij
    have key : ∀ a : Fin 3, x1 (ix2 i a) ≠ x1 (ix2 j a) → EReal.toReal (x1 (ix2 i a)) ≠ EReal.toReal (x1 (ix2 j a)) := fun a hne e =>
      hne (by rw [hr i a, hr j a, e])
    rcases (fst_read x0 x1 x2 x3 i j).mp (congrFun h1 _) with h | h | h | h
    · exact absurd h hij
    · exact ⟨0, key 0 h⟩
    · exact ⟨1, key 1 h⟩
    · exact ⟨2, key 2 h⟩
  · exact { hz := fun i f => unit_real _ _, hp := hr, hc := fun _ _ => rfl, ht := fun _ => rfl }

end Cert.Pre_points_apart
end
end
-- ==== Proof.Algebra.lean ====
module

public import proofs.«01_k».proof.Proof.Frames
public import proofs.«01_k».proof.Proof.Total
public import proofs.«01_k».proof.Proof.Apart

@[expose] public section

set_option maxRecDepth 16384

noncomputable section

namespace Cert.Proof

open Idealize.ShloMosaic Idealize.ShloMosaic.TcCoe Idealize.SL Idealize.SL.Sem

attribute [local instance] Cert.Kernel.Gen.facts Cert.KernelIdeal.Gen.facts Cert.ReferenceIdeal.Gen.facts Cert.Pre_points_apart.facts

theorem frame_ideal_pre : Cert.quiescent_KernelIdeal_pre_points_apart := fun m ρ _ => unchanged (F := Ideal) m ρ

theorem frame_reference_pre : Cert.quiescent_ReferenceIdeal_pre_points_apart := fun m ρ _ => frame_reference m ρ trivial

/-- Under the precondition both programs end with the loss. -/
theorem algebraic : Cert.algebraic_KernelIdeal_ReferenceIdeal_pre_points_apart := fun m ρ m' ρ' hPre hArgs => by
  refine ⟨fun c => Cert.KernelIdeal.Run.W4 m ρ c (Proc.devRef .tc Cert.KernelIdeal.main_v11),
    (θ_run Cert.KernelIdeal.defs _ _).mono (fun _ h => h.1) (Cert.KernelIdeal.Run.run_main (F := Ideal) m ρ),
    (θ_run Cert.ReferenceIdeal.defs _ _).mono (fun _ h c => ⟨(h c).1.trans ?_, (h c).2⟩) (Cert.ReferenceIdeal.Value.run (F := Ideal) m' ρ')⟩
  obtain ⟨D, H⟩ := Cert.Pre_points_apart.data _ _ _ _ (hPre c).1 (hPre c).2
  refine (Cert.ReferenceIdeal.Read.val_main_v79_eq m' c).trans ?_
  rw [(hArgs c).1, (hArgs c).2.1, (hArgs c).2.2.1, (hArgs c).2.2.2]
  funext y
  rw [show y = (ix0 : Cert.ReferenceIdeal.S_.Idx) from funext fun a => a.elim0]
  exact (Cert.ReferenceIdeal.Sum.v79_read H).trans (Cert.KernelIdeal.Run.total_read m ρ H).symm

end Cert.Proof

end
-- ==== Proof.lean ====
module

public import proofs.«01_k».proof.Defs
public import proofs.«01_k».proof.Proof.Frames
public import proofs.«01_k».proof.Proof.Algebra

@[expose] public section

noncomputable section

namespace Cert.Proof

theorem claim : Cert.Claim := ⟨Cert.Kernel.Gen.facts, Cert.KernelIdeal.Gen.facts, Cert.ReferenceIdeal.Gen.facts, Cert.Pre_points_apart.facts,
  frame_kernel, frame_ideal, frame_ideal_pre, frame_reference, frame_reference_pre, trivial, algebraic⟩

end Cert.Proof

end
